-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseReferenceIdeal (m : (ℓ : Loc Cert.QuantiseReferenceIdeal.nD Cert.QuantiseReferenceIdeal.τ Cert.QuantiseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Quantise_QuantiseIdeal : Prop :=
  IdealRules.sign_bit.Statement Cert.QuantiseIdeal.S32x128 .f32

def algebraic_QuantiseIdeal_QuantiseReferenceIdeal [hQuantiseIdeal : Cert.QuantiseIdeal.Facts] [hQuantiseReferenceIdeal : Cert.QuantiseReferenceIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)) →
    ∃ (v0 : (c : Dev Cert.QuantiseIdeal.nD) → Buf (Elt Ideal) ((c.tc : Thread Cert.QuantiseIdeal.nD Cert.QuantiseIdeal.τ).loc Cert.QuantiseIdeal.main_v0_0)) (v1 : (c : Dev Cert.QuantiseIdeal.nD) → Buf (Elt Ideal) ((c.tc : Thread Cert.QuantiseIdeal.nD Cert.QuantiseIdeal.τ).loc Cert.QuantiseIdeal.main_v0_1)) (v2 : (c : Dev Cert.QuantiseIdeal.nD) → Buf (Elt Ideal) ((c.tc : Thread Cert.QuantiseIdeal.nD Cert.QuantiseIdeal.τ).loc Cert.QuantiseIdeal.main_v0_2)) (v3 : (c : Dev Cert.QuantiseIdeal.nD) → Buf (Elt Ideal) ((c.tc : Thread Cert.QuantiseIdeal.nD Cert.QuantiseIdeal.τ).loc Cert.QuantiseIdeal.main_v0_3)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_1) = v1 c
          ∧ r.2.mem ((c.tc : Thread Cert.QuantiseIdeal.nD Cert.QuantiseIdeal.τ).loc Cert.QuantiseIdeal.main_v0_2) = v2 c
          ∧ r.2.mem ((c.tc : Thread Cert.QuantiseIdeal.nD Cert.QuantiseIdeal.τ).loc Cert.QuantiseIdeal.main_v0_3) = v3 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v0_0) = v0 c
          ∧ r.2.mem ((c.tc : Thread Cert.QuantiseReferenceIdeal.nD Cert.QuantiseReferenceIdeal.τ).loc Cert.QuantiseReferenceIdeal.main_v0_1) = v1 c
          ∧ r.2.mem ((c.tc : Thread Cert.QuantiseReferenceIdeal.nD Cert.QuantiseReferenceIdeal.τ).loc Cert.QuantiseReferenceIdeal.main_v0_2) = v2 c
          ∧ r.2.mem ((c.tc : Thread Cert.QuantiseReferenceIdeal.nD Cert.QuantiseReferenceIdeal.τ).loc Cert.QuantiseReferenceIdeal.main_v0_3) = v3 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Quantise (hQuantise := hQuantise)
    ∧ quiescent_QuantiseIdeal (hQuantiseIdeal := hQuantiseIdeal)
    ∧ quiescent_QuantiseReferenceIdeal (hQuantiseReferenceIdeal := hQuantiseReferenceIdeal)
    ∧ preserves_Kernel_KernelIdeal
    ∧ algebraic_KernelIdeal_ReferenceIdeal (hKernelIdeal := hKernelIdeal) (hReferenceIdeal := hReferenceIdeal)
    ∧ preserves_Quantise_QuantiseIdeal
    ∧ algebraic_QuantiseIdeal_QuantiseReferenceIdeal (hQuantiseIdeal := hQuantiseIdeal) (hQuantiseReferenceIdeal := hQuantiseReferenceIdeal)
-- ==== Kernel.lean ====
abbrev S1792x4096 : Shape := ⟨2, ![1792, 4096]⟩
abbrev S14336x4096 : Shape := ⟨2, ![14336, 4096]⟩
abbrev S14336x128 : Shape := ⟨2, ![14336, 128]⟩
abbrev S1792x14336 : Shape := ⟨2, ![1792, 14336]⟩
abbrev S512x4096 : Shape := ⟨2, ![512, 4096]⟩
abbrev S512x128 : Shape := ⟨2, ![512, 128]⟩
abbrev S1792x512 : Shape := ⟨2, ![1792, 512]⟩
abbrev S32x128 : Shape := ⟨2, ![32, 128]⟩
abbrev S32x128x1 : Shape := ⟨3, ![32, 128, 1]⟩

abbrev nBuf : Space → Nat
  | .hbm => 4
  | .vmem => 8
  | .smem => 0
  | _ => 0

abbrev bufTy : (tb : Table) → Fin (tcTables nBuf tb) → BufTy
  | .hbm, ⟨0, _⟩ => ⟨S1792x4096, .bf16⟩
  | .hbm, ⟨1, _⟩ => ⟨S14336x4096, .fp8e4m3⟩
  | .hbm, ⟨2, _⟩ => ⟨S14336x128, .i8⟩
  | .hbm, ⟨3, _⟩ => ⟨S1792x14336, .bf16⟩
  | .local _ .vmem, ⟨0, _⟩ => ⟨S1792x4096, .bf16⟩
  | .local _ .vmem, ⟨1, _⟩ => ⟨S512x4096, .fp8e4m3⟩
  | .local _ .vmem, ⟨2, _⟩ => ⟨S512x4096, .fp8e4m3⟩
  | .local _ .vmem, ⟨3, _⟩ => ⟨S512x128, .i8⟩
  | .local _ .vmem, ⟨4, _⟩ => ⟨S512x128, .i8⟩
  | .local _ .vmem, ⟨5, _⟩ => ⟨S1792x512, .bf16⟩
  | .local _ .vmem, ⟨6, _⟩ => ⟨S1792x512, .bf16⟩
  | .local _ .vmem, ⟨7, _⟩ => ⟨S512x4096, .bf16⟩
  | _, _ => ⟨S1792x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![28], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  v7
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v9 : Index := Scalar.indexCast v8
  let c0_6 : Index := 0#32
  ![v9.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v53 : Index := Scalar.indexCast v8
  let c0_17 : Index := 0#32
  ![v53.toNat, 0]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v96 : Index := Scalar.indexCast v8
  let c128 : Index := 128#32
  ![v96.toNat, 128]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v139 : Index := Scalar.indexCast v8
  let c256 : Index := 256#32
  ![v139.toNat, 256]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v182 : Index := Scalar.indexCast v8
  let c384 : Index := 384#32
  ![v182.toNat, 384]
def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v225 : Index := Scalar.indexCast v8
  let c512 : Index := 512#32
  ![v225.toNat, 512]
def k0_off7 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v268 : Index := Scalar.indexCast v8
  let c640 : Index := 640#32
  ![v268.toNat, 640]
def k0_off8 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v311 : Index := Scalar.indexCast v8
  let c768 : Index := 768#32
  ![v311.toNat, 768]
def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v354 : Index := Scalar.indexCast v8
  let c896 : Index := 896#32
  ![v354.toNat, 896]
def k0_off10 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v397 : Index := Scalar.indexCast v8
  let c1024 : Index := 1024#32
  ![v397.toNat, 1024]
def k0_off11 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v440 : Index := Scalar.indexCast v8
  let c1152 : Index := 1152#32
  ![v440.toNat, 1152]
def k0_off12 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v483 : Index := Scalar.indexCast v8
  let c1280 : Index := 1280#32
  ![v483.toNat, 1280]
def k0_off13 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v526 : Index := Scalar.indexCast v8
  let c1408 : Index := 1408#32
  ![v526.toNat, 1408]
def k0_off14 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v569 : Index := Scalar.indexCast v8
  let c1536 : Index := 1536#32
  ![v569.toNat, 1536]
def k0_off15 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v612 : Index := Scalar.indexCast v8
  let c1664 : Index := 1664#32
  ![v612.toNat, 1664]
def k0_off16 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v655 : Index := Scalar.indexCast v8
  let c1792 : Index := 1792#32
  ![v655.toNat, 1792]
def k0_off17 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v698 : Index := Scalar.indexCast v8
  let c1920 : Index := 1920#32
  ![v698.toNat, 1920]
def k0_off18 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v741 : Index := Scalar.indexCast v8
  let c2048 : Index := 2048#32
  ![v741.toNat, 2048]
def k0_off19 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v784 : Index := Scalar.indexCast v8
  let c2176 : Index := 2176#32
  ![v784.toNat, 2176]
def k0_off20 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v827 : Index := Scalar.indexCast v8
  let c2304 : Index := 2304#32
  ![v827.toNat, 2304]
def k0_off21 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v870 : Index := Scalar.indexCast v8
  let c2432 : Index := 2432#32
  ![v870.toNat, 2432]
def k0_off22 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v913 : Index := Scalar.indexCast v8
  let c2560 : Index := 2560#32
  ![v913.toNat, 2560]
def k0_off23 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v956 : Index := Scalar.indexCast v8
  let c2688 : Index := 2688#32
  ![v956.toNat, 2688]
def k0_off24 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v999 : Index := Scalar.indexCast v8
  let c2816 : Index := 2816#32
  ![v999.toNat, 2816]
def k0_off25 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v1042 : Index := Scalar.indexCast v8
  let c2944 : Index := 2944#32
  ![v1042.toNat, 2944]
def k0_off26 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v1085 : Index := Scalar.indexCast v8
  let c3072 : Index := 3072#32
  ![v1085.toNat, 3072]
def k0_off27 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v1128 : Index := Scalar.indexCast v8
  let c3200 : Index := 3200#32
  ![v1128.toNat, 3200]
def k0_off28 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v1171 : Index := Scalar.indexCast v8
  let c3328 : Index := 3328#32
  ![v1171.toNat, 3328]
def k0_off29 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v1214 : Index := Scalar.indexCast v8
  let c3456 : Index := 3456#32
  ![v1214.toNat, 3456]
def k0_off30 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v1257 : Index := Scalar.indexCast v8
  let c3584 : Index := 3584#32
  ![v1257.toNat, 3584]
def k0_off31 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v1300 : Index := Scalar.indexCast v8
  let c3712 : Index := 3712#32
  ![v1300.toNat, 3712]
def k0_off32 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v1343 : Index := Scalar.indexCast v8
  let c3840 : Index := 3840#32
  ![v1343.toNat, 3840]
def k0_off33 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v7 : BitVec 32 := Scalar.muli arg6 c32_i32
  let v8 : BitVec 32 := v7
  let v1386 : Index := Scalar.indexCast v8
  let c3968 : Index := 3968#32
  ![v1386.toNat, 3968]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1792x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1792x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1792x4096 : Shape := ⟨2, ![1792, 4096]⟩
abbrev S14336x4096 : Shape := ⟨2, ![14336, 4096]⟩
abbrev S14336x128 : Shape := ⟨2, ![14336, 128]⟩
abbrev S1792x14336 : Shape := ⟨2, ![1792, 14336]⟩
abbrev S14336x128x32 : Shape := ⟨3, ![14336, 128, 32]⟩
abbrev S14336x128x1 : Shape := ⟨3, ![14336, 128, 1]⟩

abbrev nBuf : Space → Nat
  | .hbm => 4
  | .vmem => 4
  | .smem => 0
  | _ => 0

abbrev bufTy : (tb : Table) → Fin (tcTables nBuf tb) → BufTy
  | .hbm, ⟨0, _⟩ => ⟨S1792x4096, .bf16⟩
  | .hbm, ⟨1, _⟩ => ⟨S14336x4096, .fp8e4m3⟩
  | .hbm, ⟨2, _⟩ => ⟨S14336x128, .i8⟩
  | .hbm, ⟨3, _⟩ => ⟨S1792x14336, .bf16⟩
  | .local _ .vmem, ⟨0, _⟩ => ⟨S1792x4096, .bf16⟩
  | .local _ .vmem, ⟨1, _⟩ => ⟨S14336x4096, .fp8e4m3⟩
  | .local _ .vmem, ⟨2, _⟩ => ⟨S14336x128, .i8⟩
  | .local _ .vmem, ⟨3, _⟩ => ⟨S1792x14336, .bf16⟩
  | _, _ => ⟨S1792x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1792x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Quantise.lean ====
abbrev S1792x4096 : Shape := ⟨2, ![1792, 4096]⟩
abbrev S1792x128 : Shape := ⟨2, ![1792, 128]⟩
abbrev S1792x512 : Shape := ⟨2, ![1792, 512]⟩
abbrev S256x4096 : Shape := ⟨2, ![256, 4096]⟩
abbrev S256x128 : Shape := ⟨2, ![256, 128]⟩
abbrev S256x512 : Shape := ⟨2, ![256, 512]⟩
abbrev S256x256 : Shape := ⟨2, ![256, 256]⟩
abbrev S2048x256 : Shape := ⟨2, ![2048, 256]⟩
abbrev S32x128 : Shape := ⟨2, ![32, 128]⟩
abbrev S32x128x1 : Shape := ⟨3, ![32, 128, 1]⟩
abbrev S256x2048 : Shape := ⟨2, ![256, 2048]⟩

abbrev nBuf : Space → Nat
  | .hbm => 5
  | .vmem => 14
  | .smem => 0
  | _ => 0

abbrev bufTy : (tb : Table) → Fin (tcTables nBuf tb) → BufTy
  | .hbm, ⟨0, _⟩ => ⟨S1792x4096, .bf16⟩
  | .hbm, ⟨1, _⟩ => ⟨S1792x4096, .fp8e4m3⟩
  | .hbm, ⟨2, _⟩ => ⟨S1792x128, .i8⟩
  | .hbm, ⟨3, _⟩ => ⟨S1792x512, .i8⟩
  | .hbm, ⟨4, _⟩ => ⟨S1792x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .fp8e4m3⟩
  | .local _ .vmem, ⟨3, _⟩ => ⟨S256x4096, .fp8e4m3⟩
  | .local _ .vmem, ⟨4, _⟩ => ⟨S256x128, .i8⟩
  | .local _ .vmem, ⟨5, _⟩ => ⟨S256x128, .i8⟩
  | .local _ .vmem, ⟨6, _⟩ => ⟨S256x512, .i8⟩
  | .local _ .vmem, ⟨7, _⟩ => ⟨S256x512, .i8⟩
  | .local _ .vmem, ⟨8, _⟩ => ⟨S256x4096, .bf16⟩
  | .local _ .vmem, ⟨9, _⟩ => ⟨S256x4096, .bf16⟩
  | .local _ .vmem, ⟨10, _⟩ => ⟨S256x256, .bf16⟩
  | .local _ .vmem, ⟨11, _⟩ => ⟨S2048x256, .fp8e4m3⟩
  | .local _ .vmem, ⟨12, _⟩ => ⟨S256x4096, .f32⟩
  | .local _ .vmem, ⟨13, _⟩ => ⟨S256x4096, .fp8e4m3⟩
  | _, _ => ⟨S1792x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![7], ![false]⟩

@[reducible] def k0_t1_loop : Scf.Loop 32 :=
  let c0_i32_131 : BitVec 32 := 0#32
  let c8_i32 : BitVec 32 := 8#32
  let v201 : BitVec 32 := Scalar.addi c0_i32_131 c8_i32
  let c1_i32_132 : BitVec 32 := 1#32
  ⟨c0_i32_131, v201, c1_i32_132⟩
def k0_mult1 (k0_t1 : Fin k0_t1_loop.trips) : BitVec 32 :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  v214
def k0_off1 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v216 : Index := Scalar.indexCast v215
  let c0_149 : Index := 0#32
  ![v216.toNat, 0]
def k0_off2 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v219 : Index := Scalar.indexCast v215
  let c128 : Index := 128#32
  ![v219.toNat, 128]
def k0_off3 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v222 : Index := Scalar.indexCast v215
  let c256_150 : Index := 256#32
  ![v222.toNat, 256]
def k0_off4 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v225 : Index := Scalar.indexCast v215
  let c384 : Index := 384#32
  ![v225.toNat, 384]
def k0_off5 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v228 : Index := Scalar.indexCast v215
  let c512_151 : Index := 512#32
  ![v228.toNat, 512]
def k0_off6 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v231 : Index := Scalar.indexCast v215
  let c640 : Index := 640#32
  ![v231.toNat, 640]
def k0_off7 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v234 : Index := Scalar.indexCast v215
  let c768_152 : Index := 768#32
  ![v234.toNat, 768]
def k0_off8 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v237 : Index := Scalar.indexCast v215
  let c896 : Index := 896#32
  ![v237.toNat, 896]
def k0_off9 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v240 : Index := Scalar.indexCast v215
  let c1024_153 : Index := 1024#32
  ![v240.toNat, 1024]
def k0_off10 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v243 : Index := Scalar.indexCast v215
  let c1152 : Index := 1152#32
  ![v243.toNat, 1152]
def k0_off11 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v246 : Index := Scalar.indexCast v215
  let c1280_154 : Index := 1280#32
  ![v246.toNat, 1280]
def k0_off12 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v249 : Index := Scalar.indexCast v215
  let c1408 : Index := 1408#32
  ![v249.toNat, 1408]
def k0_off13 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v252 : Index := Scalar.indexCast v215
  let c1536_155 : Index := 1536#32
  ![v252.toNat, 1536]
def k0_off14 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v255 : Index := Scalar.indexCast v215
  let c1664 : Index := 1664#32
  ![v255.toNat, 1664]
def k0_off15 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v258 : Index := Scalar.indexCast v215
  let c1792_156 : Index := 1792#32
  ![v258.toNat, 1792]
def k0_off16 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v261 : Index := Scalar.indexCast v215
  let c1920 : Index := 1920#32
  ![v261.toNat, 1920]
def k0_off17 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v264 : Index := Scalar.indexCast v215
  let c2048_157 : Index := 2048#32
  ![v264.toNat, 2048]
def k0_off18 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v267 : Index := Scalar.indexCast v215
  let c2176 : Index := 2176#32
  ![v267.toNat, 2176]
def k0_off19 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v270 : Index := Scalar.indexCast v215
  let c2304_158 : Index := 2304#32
  ![v270.toNat, 2304]
def k0_off20 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v273 : Index := Scalar.indexCast v215
  let c2432 : Index := 2432#32
  ![v273.toNat, 2432]
def k0_off21 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v276 : Index := Scalar.indexCast v215
  let c2560_159 : Index := 2560#32
  ![v276.toNat, 2560]
def k0_off22 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v279 : Index := Scalar.indexCast v215
  let c2688 : Index := 2688#32
  ![v279.toNat, 2688]
def k0_off23 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v282 : Index := Scalar.indexCast v215
  let c2816_160 : Index := 2816#32
  ![v282.toNat, 2816]
def k0_off24 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v285 : Index := Scalar.indexCast v215
  let c2944 : Index := 2944#32
  ![v285.toNat, 2944]
def k0_off25 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v288 : Index := Scalar.indexCast v215
  let c3072_161 : Index := 3072#32
  ![v288.toNat, 3072]
def k0_off26 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v291 : Index := Scalar.indexCast v215
  let c3200 : Index := 3200#32
  ![v291.toNat, 3200]
def k0_off27 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v294 : Index := Scalar.indexCast v215
  let c3328_162 : Index := 3328#32
  ![v294.toNat, 3328]
def k0_off28 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v297 : Index := Scalar.indexCast v215
  let c3456 : Index := 3456#32
  ![v297.toNat, 3456]
def k0_off29 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v300 : Index := Scalar.indexCast v215
  let c3584_163 : Index := 3584#32
  ![v300.toNat, 3584]
def k0_off30 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v303 : Index := Scalar.indexCast v215
  let c3712 : Index := 3712#32
  ![v303.toNat, 3712]
def k0_off31 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v306 : Index := Scalar.indexCast v215
  let c3840_164 : Index := 3840#32
  ![v306.toNat, 3840]
def k0_off32 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v309 : Index := Scalar.indexCast v215
  let c3968 : Index := 3968#32
  ![v309.toNat, 3968]
def k0_off33 (k0_t1 : Fin k0_t1_loop.trips) : Fin 2 → Nat :=
  let c0_i32_131 : BitVec 32 := 0#32
  let c1_i32_132 : BitVec 32 := 1#32
  let arg10 : BitVec 32 := Scf.iv c0_i32_131 c1_i32_132 k0_t1
  let c32_i32_148 : BitVec 32 := 32#32
  let v214 : BitVec 32 := Scalar.muli arg10 c32_i32_148
  let v215 : BitVec 32 := v214
  let v820 : Index := Scalar.indexCast v215
  let c0_288 : Index := 0#32
  ![v820.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantiseIdeal.lean ====
variable {F : FTy → Type} [FloatOps F]
-- ==== QuantiseReferenceIdeal.lean ====
abbrev S1792x4096 : Shape := ⟨2, ![1792, 4096]⟩
abbrev S1792x128 : Shape := ⟨2, ![1792, 128]⟩
abbrev S1792x512 : Shape := ⟨2, ![1792, 512]⟩
abbrev S32x32 : Shape := ⟨2, ![32, 32]⟩
abbrev S229376x32 : Shape := ⟨2, ![229376, 32]⟩
abbrev S1792x128x32 : Shape := ⟨3, ![1792, 128, 32]⟩
abbrev S1792x128x254 : Shape := ⟨3, ![1792, 128, 254]⟩
abbrev S1792x128x1 : Shape := ⟨3, ![1792, 128, 1]⟩
abbrev S1792x512x8 : Shape := ⟨3, ![1792, 512, 8]⟩

abbrev nBuf : Space → Nat
  | .hbm => 5
  | .vmem => 5
  | .smem => 0
  | _ => 0

abbrev bufTy : (tb : Table) → Fin (tcTables nBuf tb) → BufTy
  | .hbm, ⟨0, _⟩ => ⟨S1792x4096, .bf16⟩
  | .hbm, ⟨1, _⟩ => ⟨S1792x4096, .fp8e4m3⟩
  | .hbm, ⟨2, _⟩ => ⟨S1792x128, .i8⟩
  | .hbm, ⟨3, _⟩ => ⟨S1792x512, .i8⟩
  | .hbm, ⟨4, _⟩ => ⟨S1792x4096, .bf16⟩
  | .local _ .vmem, ⟨0, _⟩ => ⟨S1792x4096, .bf16⟩
  | .local _ .vmem, ⟨1, _⟩ => ⟨S1792x4096, .fp8e4m3⟩
  | .local _ .vmem, ⟨2, _⟩ => ⟨S1792x128, .i8⟩
  | .local _ .vmem, ⟨3, _⟩ => ⟨S1792x512, .i8⟩
  | .local _ .vmem, ⟨4, _⟩ => ⟨S1792x4096, .bf16⟩
  | _, _ => ⟨S1792x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1792x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x512 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Tile.lean ====
module

public import proofs.«01_k».proof.Proof.Gen.KernelIdeal.Value
public import Idealize.ShloMosaic.Lib.Pipeline.ValueKit
public import Idealize.ShloMosaic.Lib.Pointwise

/-! What one trip of the kernel's loop stores in the scratch of dequantised weights: 32 tiles of 32 × 128. The lane index of each
tile's gather is decided once for all tiles, every stored payload is the one `tile v`, and its value is read at an index. -/

@[expose] public section
set_option maxRecDepth 16384
noncomputable section
namespace Cert.KernelIdeal.Mm
open Cert.KernelIdeal Cert.KernelIdeal.Gen Idealize.ShloMosaic Idealize.ShloMosaic.TcCoe Idealize.SL.Sem Idealize.ShloMosaic.Tactic

variable {F : FTy → Type} [FloatOps F]

/-- The lane index of tile `v` as the kernel computes it in words: the floor of the lane number by 32, plus `4 v`, wrapped if
negative. -/
def laneWord (v : ℕ) (x : BitVec 32) : BitVec 32 :=
  let q := IntOp.divsi .vector x 32#32
  let d := Scalar.select (IntOp.andi (IntOp.cmpi .ne
      (IntOp.subi ((IntOp.cmpi .sgt x 0#32).setWidth 32) ((IntOp.cmpi .slt x 0#32).setWidth 32))
      (Scalar.subi (Scalar.extui (Scalar.cmpi .sgt 32#32 0#32)) (Scalar.extui (Scalar.cmpi .slt 32#32 0#32))))
    (IntOp.cmpi .ne (IntOp.remsi .vector x 32#32) 0#32)) (IntOp.subi q 1#32) q
  let a := IntOp.addi d (BitVec.ofNat 32 (4 * v))
  Scalar.select (IntOp.cmpi .slt a 0#32) (IntOp.addi a 128#32) a

/-- In numbers the lane index of lane `l` of tile `v` is `4 v + l / 32`: decided for the 32 · 128 pairs. -/
theorem laneWord_val : ∀ (v : Fin 32) (l : Fin 128), (laneWord v.val (BitVec.ofNat 32 l.val)).toNat = 4 * v.val + l.val / 32 := by
  decide +kernel

/-- Tile `v` as the kernel stores it: the codes `w`, widened, times the scales gathered along the lanes. -/
def tile (v : ℕ) (x : IVec S32x128 32) (p : FVec F S32x128 .f32) (w : Vec F S32x128 .fp8e4m3) : FVec F S32x128 .bf16 :=
  shapeCast S32x128 (mulf (extf .bf16 w bitsLt_fp8e4m3_bf16) (truncf .bf16
    (dynamicGather 1 p (shapeCast S32x128 (shapeCast S32x128x1 (fun i => laneWord v (x i)) shapeCasts_S32x128_S32x128x1)
      shapeCasts_S32x128x1_S32x128)) bitsLt_bf16_f32)) shapeCasts_S32x128_S32x128

/-- The loop makes 16 trips. -/
theorem trips_eq : k0_t1_loop.trips = 16 := by decide +kernel

/-- The first row of trip `k`, computed in words, is `32 k`. -/
theorem row_val (k : ℕ) (hk : k < 16) : (Scalar.indexCast (Scalar.muli (Scf.iv 0#32 1#32 k) 32#32)).toNat = 32 * k := by
  have h : ∀ k : Fin 16, (Scalar.indexCast (Scalar.muli (Scf.iv 0#32 1#32 k.val) 32#32)).toNat = 32 * k.val := by decide +kernel
  exact h ⟨k, hk⟩

/-- Rows `32 k .. 32 k + 31`, columns `128 v .. 128 v + 127` of the 512 × 4096 scratch lie inside it. -/
theorem tile_inb (k : Fin k0_t1_loop.trips) (v : Fin 32) (a : Fin 2) :
    ![(Scalar.indexCast (Scalar.muli (Scf.iv 0#32 1#32 k.val) 32#32)).toNat, 128 * v.val] a + ![32, 128] a ≤ S512x4096.size a := by
  have hk : k.val < 16 := Nat.lt_of_lt_of_eq k.isLt trips_eq
  have hv := v.isLt
  rw [row_val k.val hk]
  match a with
  | 0 => show 32 * k.val + 32 ≤ 512; omega
  | 1 => show 128 * v.val + 128 ≤ 4096; omega

/-- Rows `32 k .. 32 k + 31` of the 512 × 128 block of scale codes lie inside it. -/
theorem scale_inb (k : Fin k0_t1_loop.trips) (a : Fin 2) :
    ![(Scalar.indexCast (Scalar.muli (Scf.iv 0#32 1#32 k.val) 32#32)).toNat, 0] a + ![32, 128] a ≤ S512x128.size a := by
  have hk : k.val < 16 := Nat.lt_of_lt_of_eq k.isLt trips_eq
  rw [row_val k.val hk]
  match a with
  | 0 => show 32 * k.val + 32 ≤ 512; omega
  | 1 => show 0 + 128 ≤ 128; omega

/-- The piece that trip `k` stores for tile `v`. -/
def piece (x : IVec S32x128 32) (X2 : S512x4096.Idx → Elt F .fp8e4m3) (X3 : S512x128.Idx → Elt F .i8) (k : Fin k0_t1_loop.trips)
    (v : Fin 32) : View.Piece (Elt F) S512x4096 .bf16 :=
  ⟨Rect.unit ![(Scalar.indexCast (Scalar.muli (Scf.iv 0#32 1#32 k.val) 32#32)).toNat, 128 * v.val] ![32, 128] (tile_inb k v),
    tile v.val x (k0_pay3 (View.ld X3 (Rect.unit ![(Scalar.indexCast (Scalar.muli (Scf.iv 0#32 1#32 k.val) 32#32)).toNat, 0] ![32, 128] (scale_inb k))))
      (View.ld X2 (Rect.unit ![(Scalar.indexCast (Scalar.muli (Scf.iv 0#32 1#32 k.val) 32#32)).toNat, 128 * v.val] ![32, 128] (tile_inb k v)))⟩

/-- The writes of a trip to the scaled weights: one per tile. -/
theorem trip_pieces (𝒱 : Variants) (c : Dev nD) (bd : Option 𝒱.V) (i : grid0.Coords) (arg1 : Memref sig .tc .vmem S1792x4096 .bf16) (harg1 : arg1.IsWhole) (arg2 : Memref sig .tc .vmem S512x4096 .fp8e4m3) (harg2 : arg2.IsWhole) (arg3 : Memref sig .tc .vmem S512x128 .i8) (harg3 : arg3.IsWhole) (arg4 : Memref sig .tc .vmem S1792x512 .bf16) (harg4 : arg4.IsWhole) (arg5 : Memref sig .tc .vmem S512x4096 .bf16) (harg5 : arg5.IsWhole) (v0 : IVec S32x128 32) (X_arg2 : BufTy.Contents (Elt F) arg2.view.ty) (X_arg3 : BufTy.Contents (Elt F) arg3.view.ty) (k : Fin k0_t1_loop.trips) :
   tripL_k0_t1 (F := F) 𝒱 c bd i arg1 harg1 arg2 harg2 arg3 harg3 arg4 harg4 arg5 harg5 v0 X_arg2 X_arg3 k
     = (List.finRange 32).reverse.map (piece v0 (arg2.view.read (Elt F) X_arg2) (arg3.view.read (Elt F) X_arg3) k) := by
  unfold tripL_k0_t1 trip_k0_t1
  sl_unfold_words
  dsimp only
  rfl

/-- The power of two the kernel builds from a scale code: the code in the exponent field of a float. -/
def scaleWord (c : BitVec 8) : EReal :=
  Ideal.ofBits .f32 (IntOp.shli .vector (IntOp.addi (IntOp.subi (c.setWidth 32) 127#32) 127#32) 23#32)

/-- The dequantised weights of a block of 512 rows: each code times the scale of its group of 32 columns. -/
def dequant (X2 : Vec Ideal S512x4096 .fp8e4m3) (X3 : Vec Ideal S512x128 .i8) : Vec Ideal S512x4096 .bf16 :=
  fun y => (X2 y : EReal) * scaleWord (X3 (ix2 (y 0) ⟨(y 1).val / 32, by have : (y 1).val < 4096 := (y 1).isLt; omega⟩))

/-- Tile `v` at row `r`, lane `l`: the code there times the scale at lane `4 v + l / 32` of the same row. -/
theorem tile_apply (v : Fin 32) (p : FVec Ideal S32x128 .f32) (w : Vec Ideal S32x128 .fp8e4m3) (r : Fin 32) (l : Fin 128) :
    tile (F := Ideal) v.val (iota Kind.tc S32x128 32 [1] iota_S32x128_d1_w32) p w (ix2 r l)
      = (w (ix2 r l) * p (ix2 r ⟨4 * v.val + l.val / 32, by omega⟩) : EReal) := by
  have hi : iota Kind.tc S32x128 32 [1] iota_S32x128_d1_w32 (ix2 r l) = BitVec.ofNat 32 l.val := by
    pointwise
  have h := laneWord_val v l
  have hx : (⟨(laneWord v.val (BitVec.ofNat 32 l.val)).toNat % 128, Nat.mod_lt _ (by decide)⟩ : Fin 128)
      = ⟨4 * v.val + l.val / 32, by omega⟩ := Fin.ext (by show _ % 128 = 4 * v.val + l.val / 32; omega)
  pointwise [tile]
  rw [hx]

/-- Every piece a trip stores is a block of the dequantised weights. -/
theorem piece_block (X2 : Vec Ideal S512x4096 .fp8e4m3) (X3 : Vec Ideal S512x128 .i8) (k : Fin k0_t1_loop.trips) (v : Fin 32)
    (x : (piece (F := Ideal) (iota Kind.tc S32x128 32 [1] iota_S32x128_d1_w32) X2 X3 k v).1.shape.Idx) :
    (piece (F := Ideal) (iota Kind.tc S32x128 32 [1] iota_S32x128_d1_w32) X2 X3 k v).2 x
      = dequant X2 X3 ((piece (F := Ideal) (iota Kind.tc S32x128 32 [1] iota_S32x128_d1_w32) X2 X3 k v).1.emb x) := by
  obtain ⟨r, l, rfl⟩ : ∃ (r : Fin 32) (l : Fin 128), x = (ix2 r l : S32x128.Idx) := ⟨x 0, x 1, eq_ix2 x⟩
  refine (tile_apply v _ _ r l).trans ?_
  have hk : k.val < 16 := Nat.lt_of_lt_of_eq k.isLt trips_eq
  have hr := row_val k.val hk
  have hc : (⟨4 * v.val + l.val / 32, by omega⟩ : Fin 128) = ⟨(128 * v.val + l.val) / 32, by omega⟩ := Fin.ext (by
    show 4 * v.val + l.val / 32 = (128 * v.val + l.val) / 32; omega)
  rw [hc]
  change _ = dequant X2 X3 ((Rect.unit (s := S512x4096) ![(Scalar.indexCast (Scalar.muli (Scf.iv 0#32 1#32 k.val) 32#32)).toNat,
    128 * v.val] ![32, 128] (tile_inb k v)).toLoadRect.idx (ix2 r l))
  unfold dequant scaleWord
  pointwise [k0_pay3, piece]

/-- The pieces of the trips before `n` are blocks of the dequantised weights. -/
theorem pieces_block (c : Dev nD) (i : grid0.Coords) (arg1 : Memref sig .tc .vmem S1792x4096 .bf16) (harg1 : arg1.IsWhole) (arg2 : Memref sig .tc .vmem S512x4096 .fp8e4m3) (harg2 : arg2.IsWhole) (arg3 : Memref sig .tc .vmem S512x128 .i8) (harg3 : arg3.IsWhole) (arg4 : Memref sig .tc .vmem S1792x512 .bf16) (harg4 : arg4.IsWhole) (arg5 : Memref sig .tc .vmem S512x4096 .bf16) (harg5 : arg5.IsWhole)
    (x1 : Vec Ideal S512x4096 .fp8e4m3) (x2 : Vec Ideal S512x128 .i8) (n : ℕ) (hn : n ≤ 16) :
    (∀ p ∈ pb_k0_t1 (F := Ideal) Variants.none c none i arg1 harg1 arg2 harg2 arg3 harg3 arg4 harg4 arg5 harg5
        (iota Kind.tc S32x128 32 [1] iota_S32x128_d1_w32) (harg2.unread x1) (harg3.unread x2) n,
      ∀ x : p.1.shape.Idx, p.2 x = dequant x1 x2 (p.1.emb x))
    ∧ ∀ (k : Fin k0_t1_loop.trips) (v : Fin 32), k.val < n →
        piece (F := Ideal) (iota Kind.tc S32x128 32 [1] iota_S32x128_d1_w32) x1 x2 k v
        ∈ pb_k0_t1 (F := Ideal) Variants.none c none i arg1 harg1 arg2 harg2 arg3 harg3 arg4 harg4 arg5 harg5
        (iota Kind.tc S32x128 32 [1] iota_S32x128_d1_w32) (harg2.unread x1) (harg3.unread x2) n := by
  induction n with
  | zero => exact ⟨fun p hp => absurd hp List.not_mem_nil, fun k v hk => absurd hk (Nat.not_lt_zero _)⟩
  | succ n ih =>
    obtain ⟨ih1, ih2⟩ := ih (by omega)
    have hn' : n < k0_t1_loop.trips := by rw [trips_eq]; omega
    rw [pb_k0_t1_succ (F := Ideal) Variants.none c none i arg1 harg1 arg2 harg2 arg3 harg3 arg4 harg4 arg5 harg5 _ _ _ ⟨n, hn'⟩,
      trip_pieces, harg2.read_unread, harg3.read_unread]
    refine ⟨fun p hp => ?_, fun k v hk => ?_⟩
    · rcases List.mem_append.mp hp with hp | hp
      · obtain ⟨v, -, rfl⟩ := List.mem_map.mp hp
        exact piece_block x1 x2 ⟨n, hn'⟩ v
      · exact ih1 p hp
    · rcases Nat.lt_succ_iff_lt_or_eq.mp hk with h | h
      · exact List.mem_append_right _ (ih2 k v h)
      · obtain rfl : k = ⟨n, hn'⟩ := Fin.ext h
        exact List.mem_append_left _ (List.mem_map.mpr ⟨v, List.mem_reverse.mpr (List.mem_finRange v), rfl⟩)

/-- After the loop the scratch reads the dequantised weights at every index. -/
theorem scratch_eq (c : Dev nD) (i : grid0.Coords) (arg1 : Memref sig .tc .vmem S1792x4096 .bf16) (harg1 : arg1.IsWhole) (arg2 : Memref sig .tc .vmem S512x4096 .fp8e4m3) (harg2 : arg2.IsWhole) (arg3 : Memref sig .tc .vmem S512x128 .i8) (harg3 : arg3.IsWhole) (arg4 : Memref sig .tc .vmem S1792x512 .bf16) (harg4 : arg4.IsWhole) (arg5 : Memref sig .tc .vmem S512x4096 .bf16) (harg5 : arg5.IsWhole)
    (x1 : Vec Ideal S512x4096 .fp8e4m3) (x2 : Vec Ideal S512x128 .i8) :
    View.canon (pb_k0_t1 (F := Ideal) Variants.none c none i arg1 harg1 arg2 harg2 arg3 harg3 arg4 harg4 arg5 harg5
        (iota Kind.tc S32x128 32 [1] iota_S32x128_d1_w32) (harg2.unread x1) (harg3.unread x2) 16) = dequant x1 x2 := by
  obtain ⟨h1, h2⟩ := pieces_block c i arg1 harg1 arg2 harg2 arg3 harg3 arg4 harg4 arg5 harg5 x1 x2 16 le_rfl
  funext y
  refine View.canon_apply_of_pieces _ _ h1 y ?_
  obtain ⟨r, q, rfl⟩ : ∃ (r : Fin 512) (q : Fin 4096), y = (ix2 r q : S512x4096.Idx) := ⟨y 0, y 1, eq_ix2 y⟩
  have hk : r.val / 32 < 16 := by omega
  have hk' : r.val / 32 < k0_t1_loop.trips := by rw [trips_eq]; exact hk
  have hr := row_val (r.val / 32) hk
  refine ⟨_, h2 ⟨r.val / 32, hk'⟩ ⟨q.val / 128, by omega⟩ hk, ?_⟩
  have he : (ix2 r q : S512x4096.Idx) = (Rect.unit (s := S512x4096) ![(Scalar.indexCast (Scalar.muli (Scf.iv 0#32 1#32
      (r.val / 32)) 32#32)).toNat, 128 * (q.val / 128)] ![32, 128] (tile_inb ⟨r.val / 32, hk'⟩ ⟨q.val / 128, by omega⟩)).toLoadRect.idx
      (ix2 (⟨r.val % 32, by omega⟩ : Fin 32) (⟨q.val % 128, by omega⟩ : Fin 128)) := by
    pointwise
    congr 1
    · exact Fin.ext (by show r.val = _ + r.val % 32; omega)
    · exact Fin.ext (by show q.val = 128 * (q.val / 128) + q.val % 128; omega)
  rw [he]
  exact LoadRect.idx_mem _ _

end Cert.KernelIdeal.Mm
-- ==== Proof.Scale.lean ====
module

public import proofs.«01_k».proof.Proof.Tile

/-! The scale of a group of 32 weights. The kernel shifts the scale code into the exponent field of a float; read as a number that is
`2 ^ (code - 127)`, except that code 0 gives the float 0 and code 255 gives infinity. The reference writes just that. -/

@[expose] public section
set_option maxRecDepth 16384
noncomputable section
namespace Cert.KernelIdeal.Mm
open Idealize.ShloMosaic

/-- The word the kernel builds from the scale code `c`. -/
def scaleBits (c : BitVec 8) : BitVec 32 :=
  IntOp.shli .vector (IntOp.addi (IntOp.subi (c.setWidth 32) 127#32) 127#32) 23#32

/-- Its sign bit is clear, its exponent field is the code and its fraction is zero: decided for the 256 codes. -/
theorem scaleBits_fields : ∀ c : BitVec 8, (scaleBits c).extractLsb' 31 1 = 0#1 ∧ ((scaleBits c).extractLsb' 23 8).toNat = c.toNat
    ∧ ((scaleBits c).extractLsb' 0 23).toNat = 0 := by
  have h : ∀ n : Fin 256, (scaleBits (BitVec.ofNat 8 n.val)).extractLsb' 31 1 = 0#1
      ∧ ((scaleBits (BitVec.ofNat 8 n.val)).extractLsb' 23 8).toNat = n.val
      ∧ ((scaleBits (BitVec.ofNat 8 n.val)).extractLsb' 0 23).toNat = 0 := by decide +kernel
  intro c
  have := h ⟨c.toNat, c.isLt⟩
  simpa using this

/-- A binary32 word with a clear sign bit, exponent field `e` and fraction zero is `2 ^ (e - 127)`; 0 at `e = 0`, infinity at
`e = 255`. -/
theorem ieee_fields (b : BitVec 32) (e : ℕ) (h1 : b.extractLsb' 31 1 = 0#1) (h2 : (b.extractLsb' 23 8).toNat = e)
    (h3 : (b.extractLsb' 0 23).toNat = 0) :
    Ideal.ofBits .f32 b = if e = 255 then (⊤ : EReal) else if e = 0 then 0 else (((2 : ℝ) ^ ((e : ℝ) - 127) : ℝ) : EReal) := by
  show Ideal.ieee 8 23 b = _
  unfold Ideal.ieee
  simp only [show (8 + 23 : ℕ) = 31 from rfl, h1, h2, h3, show (2 ^ 8 - 1 : ℕ) = 255 from rfl]
  by_cases ht : e = 255
  · rw [if_pos ht, if_pos ht]; simp
  · rw [if_neg ht, if_neg ht]
    by_cases h0 : e = 0
    · rw [if_pos h0, if_pos h0]; simp
    · rw [if_neg h0, if_neg h0]
      congr 1
      have e1 : ((e : ℝ) - 127) = (((e : ℤ) - 127 : ℤ) : ℝ) := by push_cast; ring
      rw [e1, Real.rpow_intCast]
      have e2 : ((e : ℤ) - (2 ^ (8 - 1) - 1) - ((23 : ℕ) : ℤ)) = ((e : ℤ) - 127) + (-23) := by norm_num; ring
      rw [e2, zpow_add₀ (by norm_num)]
      norm_num
      ring

/-- The scale of a code, in numbers. -/
theorem scaleWord_val (c : BitVec 8) : scaleWord c = if c.toNat = 255 then (⊤ : EReal) else if c.toNat = 0 then 0
    else (((2 : ℝ) ^ ((c.toNat : ℝ) - 127) : ℝ) : EReal) := by
  obtain ⟨h1, h2, h3⟩ := scaleBits_fields c
  exact ieee_fields (scaleBits c) c.toNat h1 h2 h3

/-- The integer the reference raises 2 to, for a code. -/
theorem exponent_val : ∀ c : BitVec 8, (IntOp.subi (c.setWidth 32) 127#32).toInt = (c.toNat : ℤ) - 127 := by
  have h : ∀ n : Fin 256, (IntOp.subi ((BitVec.ofNat 8 n.val).setWidth 32) 127#32).toInt = (n.val : ℤ) - 127 := by decide +kernel
  intro c
  have := h ⟨c.toNat, c.isLt⟩
  simpa using this

/-- The scale as the reference spells it: nothing at code 0, infinity at code 255, and the power of two otherwise. -/
theorem scaleWord_eq (c : BitVec 8) :
    scaleWord c = Scalar.select (IntOp.cmpi .eq (c.setWidth 32) 0#32) (0 : EReal)
      (Scalar.select (IntOp.cmpi .eq (c.setWidth 32) 255#32) (Ideal.ofBits .f32 0x7F800000#32)
        (FloatOps.exp2 (F := Ideal) (φ := .f32) (FloatOps.sitofp .f32 (IntOp.subi (c.setWidth 32) 127#32)))) := by
  have z : IntOp.cmpi .eq (c.setWidth 32) 0#32 = 1 ↔ c.toNat = 0 := by
    have h : ∀ n : Fin 256, IntOp.cmpi .eq ((BitVec.ofNat 8 n.val).setWidth 32) 0#32 = 1 ↔ n.val = 0 := by decide +kernel
    have := h ⟨c.toNat, c.isLt⟩
    rwa [BitVec.ofNat_toNat, BitVec.setWidth_eq] at this
  have t : IntOp.cmpi .eq (c.setWidth 32) 255#32 = 1 ↔ c.toNat = 255 := by
    have h : ∀ n : Fin 256, IntOp.cmpi .eq ((BitVec.ofNat 8 n.val).setWidth 32) 255#32 = 1 ↔ n.val = 255 := by decide +kernel
    have := h ⟨c.toNat, c.isLt⟩
    rwa [BitVec.ofNat_toNat, BitVec.setWidth_eq] at this
  rw [scaleWord_val]
  unfold Scalar.select
  by_cases h0 : c.toNat = 0
  · rw [if_pos (z.2 h0), if_neg (by omega), if_pos h0]
  · rw [if_neg (fun h => h0 (z.1 h))]
    by_cases ht : c.toNat = 255
    · rw [if_pos (t.2 ht), if_pos ht, ieee_fields 0x7F800000#32 255 (by decide) (by decide) (by decide), if_pos rfl]
    · rw [if_neg (fun h => ht (t.1 h)), if_neg ht, if_neg h0]
      show _ = Ideal.exp2 (((IntOp.subi (c.setWidth 32) 127#32).toInt : ℝ) : EReal)
      rw [exponent_val, Ideal.exp2_coe]
      push_cast
      rfl

end Cert.KernelIdeal.Mm
-- ==== Proof.Product.lean ====
module

public import proofs.«01_k».proof.Proof.Scale
public import proofs.«01_k».proof.Proof.Gen.ReferenceIdeal.Value

/-! The kernel's and the reference's result as one function of the three argument arrays: the matrix product with the dequantised
weights. -/

@[expose] public section
set_option maxRecDepth 16384
noncomputable section
namespace Cert.KernelIdeal.Mm
open Cert.KernelIdeal Cert.KernelIdeal.Gen Idealize.ShloMosaic Idealize.ShloMosaic.TcCoe Idealize.SL.Sem Idealize.ShloMosaic.Tactic

/-- The matrix product with the dequantised weights: row `s` of `xq` with row `n` of the weights, each weight its code times the
scale of its group. -/
def product (a0 : Vec Ideal S1792x4096 .bf16) (a1 : Vec Ideal S14336x4096 .fp8e4m3) (a2 : Vec Ideal S14336x128 .i8) :
    Vec Ideal S1792x14336 .bf16 := fun y =>
  ∑ k : Fin 4096, (a0 (ix2 (y 0) k) * (a1 (ix2 (y 1) k) * scaleWord (a2 (ix2 (y 1) ⟨k.val / 32, by omega⟩))) : EReal)

/-- The reference ends with the product: its scale is the kernel's, spelt as a power of two. -/
theorem reference_eq (a0 : Vec Ideal S1792x4096 .bf16) (a1 : Vec Ideal S14336x4096 .fp8e4m3) (a2 : Vec Ideal S14336x128 .i8) :
   Cert.ReferenceIdeal.Value.G3 (F := Ideal) a0 a1 a2 = product a0 a1 a2 := by
  funext y
  obtain ⟨s, n, rfl⟩ : ∃ (s : Fin 1792) (n : Fin 14336), y = (ix2 s n : S1792x14336.Idx) := ⟨y 0, y 1, eq_ix2 y⟩
  unfold Cert.ReferenceIdeal.Value.G3 product
  simp only [scaleWord_eq]
  pointwise! [Cert.ReferenceIdeal.Gen.k0_pay1]

/-- Grid point `t` works on the whole of `xq`. -/
theorem index0 : ∀ t : Fin cfg0.N, win0_0.index t = ![0, 0] := (by decide +kernel : ∀ t : Fin grid0.N, _)
/-- Grid point `t` works on the block of 512 rows of codes. Its number is `t`. -/
theorem index1 : ∀ t : Fin cfg0.N, win0_1.index t = ![t.val, 0] := (by decide +kernel : ∀ t : Fin grid0.N, _)
/-- Grid point `t` works on the block of 512 rows of scale codes. Its number is `t`. -/
theorem index2 : ∀ t : Fin cfg0.N, win0_2.index t = ![t.val, 0] := (by decide +kernel : ∀ t : Fin grid0.N, _)
/-- Grid point `t` works on the block of 512 columns of the result. Its number is `t`. -/
theorem index3 : ∀ t : Fin cfg0.N, win0_3.index t = ![0, t.val] := (by decide +kernel : ∀ t : Fin grid0.N, _)

variable (m : (ℓ : Loc nD τ sig) → Buf (Elt Ideal) ℓ)
/-- The kernel ends with the product: every block of 512 columns is the contraction of `xq` with the scratch that the loop filled. -/
theorem final (c : Dev nD) : (dats m 0 c).arrAt 3 cfg0.N = product (V m c main_arg0) (V m c main_arg1) (V m c main_arg2) := by
  refine (dats m 0 c).arrAt_eq_of_covers 3 _ (by decide +kernel) fun t hf y => ?_
  blk_simp
  rw [after0_3]
  unfold outsAt0
  frame_out
  rw [View.readCov_eq_canon', show Scf.trips 0#32 (Scalar.addi 0#32 16#32) 1#32 = 16 from trips_eq, scratch_eq]
  obtain ⟨s, n, rfl⟩ : ∃ (s : Fin 1792) (n : Fin 512), y = (ix2 s n : S1792x512.Idx) := ⟨y 0, y 1, eq_ix2 y⟩
  unfold dequant product
  pointwise [k0_pay2]
  blk_simp [iblk]
  have e0 (k : Fin 4096) : (win0_0.blk t).view.emb (ix2 s k) = (ix2 ((win0_3.blk t).view.emb (ix2 s n) 0) k : S1792x4096.Idx) := by
    blk_ext [index0, index3]
  have e1 (k : Fin 4096) : (win0_1.blk t).view.emb (ix2 n k) = (ix2 ((win0_3.blk t).view.emb (ix2 s n) 1) k : S14336x4096.Idx) := by
    blk_ext [index1, index3]
  have e2 (g : Fin 128) : (win0_2.blk t).view.emb (ix2 n g) = (ix2 ((win0_3.blk t).view.emb (ix2 s n) 1) g : S14336x128.Idx) := by
    blk_ext [index2, index3]
  simp only [e0, e1, e2]
end Cert.KernelIdeal.Mm
-- ==== Proof.Spec.lean ====
module

public import Idealize.ShloMosaic.Lib.Pointwise
public import Mathlib.Data.EReal.Inv

/-! The quantiser's mathematics on one row of the activation, over the extended reals. -/

@[expose] public section
noncomputable section
namespace Cert.Spec
open Idealize.ShloMosaic

/-- The word of a power of two or its negative, in numbers. -/
theorem word_value (b : BitVec 32) (neg : Bool) (ex : ℕ) (hn : (b.extractLsb' 31 1 == 1#1) = neg) (he : (b.extractLsb' 23 8).toNat = ex)
    (fr : ℕ) (hf : (b.extractLsb' 0 23).toNat = fr) (h0 : ex ≠ 0) (h1 : ex ≠ 255) :
    Ideal.ofBits .f32 b = (((if neg then -1 else 1) * (2 ^ 23 + fr : ℕ) * (2 : ℝ) ^ ((ex : Int) - 127 - 23) : ℝ) : EReal) := by
  show Ideal.ieee 8 23 b = _
  unfold Ideal.ieee
  simp only [show (8 + 23 : ℕ) = 31 from rfl, hn, he, hf, show (2 ^ 8 - 1 : ℕ) = 255 from rfl]
  rw [if_neg h1, if_neg h0]
  rfl

/-- The f32 word of 1/2. -/
theorem word_half : Ideal.ofBits .f32 0x3F000000#32 = ((1 / 2 : ℝ) : EReal) := by
  rw [word_value _ false 126 (by decide +kernel) (by decide +kernel) 0 (by decide +kernel) (by decide) (by decide)]
  congr 1; norm_num
/-- The f32 word of 1. -/
theorem word_one : Ideal.ofBits .f32 0x3F800000#32 = 1 := by
  rw [word_value _ false 127 (by decide +kernel) (by decide +kernel) 0 (by decide +kernel) (by decide) (by decide), ← EReal.coe_one]
  congr 1; norm_num
/-- The f32 word of -1. -/
theorem word_neg_one : Ideal.ofBits .f32 0xBF800000#32 = -1 := by
  rw [word_value _ true 127 (by decide +kernel) (by decide +kernel) 0 (by decide +kernel) (by decide) (by decide), ← EReal.coe_one, ← EReal.coe_neg]
  congr 1; norm_num
/-- The f32 word of 2. -/
theorem word_two : Ideal.ofBits .f32 0x40000000#32 = 2 := by
  rw [word_value _ false 128 (by decide +kernel) (by decide +kernel) 0 (by decide +kernel) (by decide) (by decide), show (2 : EReal) = ((2 : ℝ) : EReal) from rfl]
  congr 1; norm_num
/-- The f32 word of 4. -/
theorem word_four : Ideal.ofBits .f32 0x40800000#32 = 4 := by
  rw [word_value _ false 129 (by decide +kernel) (by decide +kernel) 0 (by decide +kernel) (by decide) (by decide), show (4 : EReal) = ((4 : ℝ) : EReal) from rfl]
  congr 1; norm_num
/-- The f32 word of 6. -/
theorem word_six : Ideal.ofBits .f32 0x40C00000#32 = 6 := by
  rw [word_value _ false 129 (by decide +kernel) (by decide +kernel) 4194304 (by decide +kernel) (by decide) (by decide), show (6 : EReal) = ((6 : ℝ) : EReal) from rfl]
  congr 1; norm_num
/-- The f32 word of -6. -/
theorem word_neg_six : Ideal.ofBits .f32 0xC0C00000#32 = -6 := by
  rw [word_value _ true 129 (by decide +kernel) (by decide +kernel) 4194304 (by decide +kernel) (by decide) (by decide), show (6 : EReal) = ((6 : ℝ) : EReal) from rfl, ← EReal.coe_neg]
  congr 1; norm_num
/-- The f32 word of 32. -/
theorem word_thirtytwo : Ideal.ofBits .f32 0x42000000#32 = ((32 : ℝ) : EReal) := by
  rw [word_value _ false 132 (by decide +kernel) (by decide +kernel) 0 (by decide +kernel) (by decide) (by decide)]
  congr 1; norm_num
/-- The f32 word of 1/32. -/
theorem word_thirtysecond : Ideal.ofBits .f32 0x3D000000#32 = ((1 / 32 : ℝ) : EReal) := by
  rw [word_value _ false 122 (by decide +kernel) (by decide +kernel) 0 (by decide +kernel) (by decide) (by decide)]
  congr 1; norm_num
/-- A word with a clear sign bit, full exponent field and zero fraction is infinity. -/
theorem word_infinite (b : BitVec 32) (hn : (b.extractLsb' 31 1 == 1#1) = false) (he : (b.extractLsb' 23 8).toNat = 255)
    (hf : (b.extractLsb' 0 23).toNat = 0) : Ideal.ofBits .f32 b = ⊤ := by
  show Ideal.ieee 8 23 b = _
  unfold Ideal.ieee
  simp only [show (8 + 23 : ℕ) = 31 from rfl, hn, he, hf, show (2 ^ 8 - 1 : ℕ) = 255 from rfl]
  simp
/-- The f32 word of infinity. -/
theorem word_top : Ideal.ofBits .f32 0x7F800000#32 = ⊤ := word_infinite _ (by decide +kernel) (by decide +kernel) (by decide +kernel)

/-- A select on a decided proposition. -/
theorem select_ofBool {α : Type} (p : Prop) [Decidable p] (a b : α) : Scalar.select (BitVec.ofBool (decide p)) a b = if p then a else b := by
  by_cases h : p <;> simp [Scalar.select, h]

/-- A select on equality of words. -/
theorem select_eq {α : Type} {w : ℕ} (x y : BitVec w) (a b : α) : Scalar.select (IntOp.cmpi .eq x y) a b = if x = y then a else b := by
  by_cases h : x = y
  · rw [if_pos h, h]; simp [Scalar.select, IntOp.cmpi]
  · rw [if_neg h, show IntOp.cmpi .eq x y = 0#1 from by simp [IntOp.cmpi, beq_eq_false_iff_ne.2 h]]; rfl

/-- The entry of the 32 × 32 Hadamard matrix, as a word: `1` or `-1`, by the parity of the bits that `j` and `i` share. -/
def hadWord (j i : ℕ) : BitVec 32 :=
  IntOp.subi 1#32 (IntOp.muli 2#32 (IntOp.andi (IntOp.ctpop (IntOp.andi (BitVec.ofNat 32 j) (BitVec.ofNat 32 i))) 1#32))

/-- The entry of the 32 × 32 Hadamard matrix. -/
def had (j i : ℕ) : EReal := (((hadWord j i).toInt : ℝ) : EReal)

/-- Position `j` of block `b` of a row of 4096. -/
abbrev pos (b : Fin 128) (j : Fin 32) : Fin 4096 := ⟨32 * b.val + j.val, by omega⟩

/-- The rotated row: each block of 32 times the normalised Hadamard matrix. -/
def rot (x : Fin 4096 → EReal) (b : Fin 128) (i : Fin 32) : EReal :=
  (∑ j : Fin 32, x (pos b j) * had j.val i.val) * Ideal.ofBits .f32 0x3E3504F3#32

/-- The root mean square of a rotated block. -/
def rms (x : Fin 4096 → EReal) (b : Fin 128) : EReal :=
  Ideal.sqrt (Ideal.div (∑ i : Fin 32, rot x b i * rot x b i) (Ideal.ofBits .f32 0x42000000#32))

/-- What the exponent is the binary logarithm of. -/
def arg (x : Fin 4096 → EReal) (b : Fin 128) : EReal :=
  Ideal.ofBits .f32 0x403AE148#32 * rms x b * Ideal.ofBits .f32 0x3E2AAAAB#32

/-- How many of the powers of two from `2^-126` to `2^127` are at most `a`. -/
def count (a : EReal) : BitVec 32 :=
  Finset.univ.fold IntOp.addi 0#32 fun t : Fin 254 => (Ideal.cmp .ole (Ideal.exp2 (((IntOp.subi (BitVec.ofNat 32 t.val) 126#32).toInt : ℝ) : EReal)) a).setWidth 32

/-- The exponent of a block. -/
def expo (x : Fin 4096 → EReal) (b : Fin 128) : BitVec 32 :=
  if rms x b = 0 then 0#32 else if arg x b = ⊤ then 4294967295#32 else count (arg x b) - 127#32

/-- The power of two with exponent `e`; the least exponent, `-127`, stands for zero. -/
def power (e : BitVec 32) : EReal := if e = 4294967169#32 then 0 else Ideal.exp2 ((e.toInt : ℝ) : EReal)

/-- A rotated value over its block's scale. -/
def val (x : Fin 4096 → EReal) (b : Fin 128) (i : Fin 32) : EReal := rot x b i * power (0#32 - expo x b)

/-- The spacing of the four-bit floats at magnitude `a`. -/
def step (a : EReal) : EReal := if a < 2 then ((1 / 2 : ℝ) : EReal) else if a < 4 then 1 else 2

/-- A value clipped to `[-6, 6]` and rounded to the nearest four-bit float. -/
def code (u : EReal) : EReal :=
  let c := min 6 (max (-6) u)
  (if c < 0 then -1 else 1) * step (max c (-c)) * Ideal.liftRound Ideal.roundHalfEven (max c (-c) * Ideal.div 1 (step (max c (-c))))

/-- Whether a value is within `[-6, 6]`. -/
def bit (u : EReal) : BitVec 32 := if max u (-u) ≤ 6 then 1#32 else 0#32

/-- The codes of a row. -/
def codes (x : Fin 4096 → EReal) (k : Fin 4096) : EReal := code (val x ⟨k.val / 32, by omega⟩ ⟨k.val % 32, by omega⟩)

/-- The dequantised row. -/
def deq (x : Fin 4096 → EReal) (k : Fin 4096) : EReal := codes x k * power (expo x ⟨k.val / 32, by omega⟩)

/-- The scale codes of a row. -/
def scales (x : Fin 4096 → EReal) (b : Fin 128) : BitVec 8 := (expo x b + 127#32).setWidth 8

/-- The clip mask of a row: bit `t` of byte `c` says whether value `8 c + t` is within `[-6, 6]`. -/
def mask (x : Fin 4096 → EReal) (c : Fin 512) : BitVec 8 :=
  (Finset.univ.fold IntOp.addi 0#32 fun t : Fin 8 =>
    bit (val x ⟨c.val / 4, by omega⟩ ⟨(8 * c.val + t.val) % 32, by omega⟩) <<< t.val).setWidth 8

end Cert.Spec
-- ==== Proof.RefSide.lean ====
module

public import proofs.«01_k».proof.Proof.Spec
public import proofs.«01_k».proof.Proof.Gen.QuantiseReferenceIdeal.Value

/-! The quantiser's reference, row by row. -/

@[expose] public section
set_option maxRecDepth 16384
noncomputable section
namespace Cert.QuantiseReferenceIdeal.Qr
open Cert.QuantiseReferenceIdeal Cert.QuantiseReferenceIdeal.Gen Idealize.ShloMosaic Idealize.ShloMosaic.TcCoe Idealize.SL.Sem Idealize.ShloMosaic.Tactic

/-- Row `s` of the activation. -/
abbrev line (a : Vec Ideal S1792x4096 .bf16) (s : Fin 1792) : Fin 4096 → EReal := fun k => a (ix2 s k)

variable (a : Vec Ideal S1792x4096 .bf16) (s : Fin 1792)

/-- A load of a whole array is the array. -/
theorem ld_whole (x : Vec Ideal S1792x4096 .bf16) : View.ld x r0_0 = x := by
  funext y
  show x _ = x y
  congr 1
  funext d
  exact Fin.ext (by match d with
    | 0 => show 0 + 1 * (y 0).val = _; omega
    | 1 => show 0 + 1 * (y 1).val = _; omega)

/-- The rotated rows, written without the read of the whole argument. -/
theorem k0_pay18_eq : k0_pay18 (F := Ideal) a = k0_pay3 a := by unfold k0_pay18; rw [ld_whole]
/-- The exponents before the two special cases, without the read of the whole argument. -/
theorem k0_pay19_eq : k0_pay19 (F := Ideal) a = k0_pay6 a := by unfold k0_pay19; rw [ld_whole]
/-- The condition that the root mean square is zero, likewise. -/
theorem k0_pay20_eq : k0_pay20 (F := Ideal) a = k0_pay7 a := by unfold k0_pay20; rw [ld_whole]
/-- The condition that the scale argument is infinite, likewise. -/
theorem k0_pay21_eq : k0_pay21 (F := Ideal) a = k0_pay8 a := by unfold k0_pay21; rw [ld_whole]
/-- The exponent at infinity. -/
theorem k0_pay22_eq : k0_pay22 (F := Ideal) a = k0_pay9 := rfl

/-- The reference rotates block by block. -/
theorem rot_eq (b : Fin 128) (i : Fin 32) : k0_pay3 (F := Ideal) a (ix3 s b i) = Spec.rot (line a s) b i := by
  unfold Spec.rot Spec.had Spec.hadWord
  pointwise [k0_pay3]
  refine congrArg (· * _) (Finset.sum_congr rfl fun j _ => ?_)
  have e : (⟨(s.val * 128 + b.val) % 128 * 32 + j.val, by omega⟩ : Fin 4096) = Spec.pos b j := Fin.ext (by
    show (s.val * 128 + b.val) % 128 * 32 + j.val = 32 * b.val + j.val
    omega)
  rw [e]
  rfl

/-- The reference's root mean square. -/
theorem rms_eq (b : Fin 128) : k0_pay4 (F := Ideal) a (ix2 s b) = Spec.rms (line a s) b := by
  unfold Spec.rms
  pointwise [k0_pay4]
  simp only [rot_eq]

/-- The reference's scale argument. -/
theorem arg_eq (b : Fin 128) : k0_pay5 (F := Ideal) a (ix2 s b) = Spec.arg (line a s) b := by
  unfold Spec.arg
  pointwise [k0_pay5]
  rw [rms_eq]

/-- The reference's count of powers of two. -/
theorem count_eq (b : Fin 128) : k0_pay6 (F := Ideal) a (ix2 s b) = Spec.count (Spec.arg (line a s) b) - 127#32 := by
  unfold Spec.count
  pointwise [k0_pay6]
  simp only [arg_eq]
  rfl

/-- The reference's exponents. -/
theorem expo_eq (b : Fin 128) : k0_pay10 (k0_pay6 (F := Ideal) a) (k0_pay7 a) (k0_pay8 a) k0_pay9 (ix2 s b) = Spec.expo (line a s) b := by
  unfold Spec.expo
  pointwise [k0_pay10, k0_pay7, k0_pay8, k0_pay9]
  rw [arg_eq, rms_eq, count_eq, Spec.word_top]

/-- The reference's scaled values. -/
theorem val_eq (b : Fin 128) (i : Fin 32) :
    k0_pay12 (k0_pay3 a) (k0_pay6 (F := Ideal) a) (k0_pay7 a) (k0_pay8 a) k0_pay9 (ix3 s b i) = Spec.val (line a s) b i := by
  unfold Spec.val Spec.power
  pointwise [k0_pay12]
  rw [rot_eq, expo_eq, Spec.select_eq]
  show (if 0#32 - Spec.expo (line a s) b = _ then (0 : EReal) else _) = _
  split_ifs with h
  · rw [mul_zero]
  · rfl

/-- The reference's codes. -/
theorem codes_eq (k : Fin 4096) : Value.G1 (F := Ideal) a (ix2 s k) = Spec.codes (line a s) k := by
  have hv := val_eq a s ⟨k.val / 32, by omega⟩ ⟨k.val % 32, by omega⟩
  unfold Spec.codes Spec.code Spec.step
  rw [← hv]
  pointwise [Value.G1, k0_pay1, k0_pay14, k0_pay15, k0_pay16, k0_pay17, k0_pay18_eq, k0_pay19_eq, k0_pay20_eq, k0_pay21_eq, k0_pay22_eq, k0_pay23, k0_pay24, k0_pay25, k0_pay26]
  simp only [Spec.word_half, Spec.word_neg_one, Spec.word_two, Spec.word_four, Spec.word_six, Spec.word_neg_six, Spec.select_ofBool]
  rfl

/-- The reference's scale codes. -/
theorem scales_eq (b : Fin 128) : Value.G2 (F := Ideal) a (ix2 s b) = Spec.scales (line a s) b := by
  unfold Spec.scales
  pointwise [Value.G2, k0_pay11, k0_pay19_eq, k0_pay20_eq, k0_pay21_eq, k0_pay22_eq]
  rw [expo_eq]
  rfl

/-- The reference's clip mask. -/
theorem mask_eq (c : Fin 512) : Value.G3 (F := Ideal) a (ix2 s c) = Spec.mask (line a s) c := by
  unfold Spec.mask Spec.bit
  pointwise [Value.G3, k0_pay13, k0_pay18_eq, k0_pay19_eq, k0_pay20_eq, k0_pay21_eq, k0_pay22_eq]
  simp only [val_eq, Spec.word_six]
  refine congrArg (BitVec.setWidth 8) (congrArg (fun f => Finset.univ.fold IntOp.addi 0#32 f) (funext fun t => ?_))
  have e : (⟨c.val % 4 * 8 + t.val, by omega⟩ : Fin 32) = ⟨(8 * c.val + t.val) % 32, by omega⟩ := Fin.ext (by
    show c.val % 4 * 8 + t.val = (8 * c.val + t.val) % 32
    omega)
  rw [e]
  have h : ∀ t : Fin 8, ∀ w : BitVec 32, IntOp.shli .vector w (BitVec.ofNat 32 t.val) = w <<< t.val := by
    intro t w
    have ht : (BitVec.ofNat 32 t.val).toNat = t.val := by rw [BitVec.toNat_ofNat]; exact Nat.mod_eq_of_lt (by omega)
    unfold IntOp.shli
    rw [if_pos (by rw [ht]; omega), BitVec.shiftLeft_eq', ht]
  rw [h]
  have ha : ∀ v : EReal, FloatOps.absf (F := Ideal) (φ := .f32) v = max v (-v) := fun _ => rfl
  rw [ha]
  split_ifs with h6
  · rw [decide_eq_true h6]; rfl
  · rw [decide_eq_false h6]; rfl

/-- The reference's dequantised values. -/
theorem deq_eq (k : Fin 4096) : Value.G4 (F := Ideal) a (ix2 s k) = Spec.deq (line a s) k := by
  unfold Spec.deq
  rw [← codes_eq]
  unfold Spec.power
  pointwise [Value.G4, k0_pay2, k0_pay19_eq, k0_pay20_eq, k0_pay21_eq, k0_pay22_eq]
  rw [expo_eq, Spec.select_eq]
  split_ifs with h
  · rw [mul_zero]
  · rfl

end Cert.QuantiseReferenceIdeal.Qr
-- ==== Proof.Trip.lean ====
module

public import proofs.«01_k».proof.Proof.Gen.QuantiseIdeal.Value
public import Idealize.ShloMosaic.Lib.Pipeline.ValueKit
public import Idealize.ShloMosaic.Lib.Pointwise

/-! What one trip of the quantiser's loop stores, over tidy definitions: the butterfly of block sums, the exponents, and per tile the
scaled values, the rounded codes and the clip bits. -/

@[expose] public section
set_option maxRecDepth 65536
set_option maxHeartbeats 4000000
noncomputable section
namespace Cert.QuantiseIdeal.Qx
open Cert.QuantiseIdeal Cert.QuantiseIdeal.Gen Idealize.ShloMosaic Idealize.ShloMosaic.TcCoe Idealize.SL.Sem Idealize.ShloMosaic.Tactic

variable {F : FTy → Type} [FloatOps F]

/-- A lane index, wrapped if negative. -/
def wrapWord (a : BitVec 32) : BitVec 32 := Scalar.select (IntOp.cmpi .slt a 0#32) (IntOp.addi a 128#32) a

/-- The entries of a vector gathered along the lanes at the lane indices `w`. -/
def gath {α : Type} (w : IVec S32x128 32) (p : S32x128.Idx → α) : S32x128.Idx → α :=
  dynamicGather 1 p (shapeCast S32x128 (shapeCast S32x128x1 (fun i => wrapWord (w i)) shapeCasts_S32x128_S32x128x1)
    shapeCasts_S32x128x1_S32x128)

/-- Whether a lane has bit `s` clear. -/
def low (s : BitVec 32) (x : IVec S32x128 32) : IVec S32x128 1 := cmpi .eq (andi x (broadcast S32x128 s)) (broadcast S32x128 0#32)

/-- One merge of the butterfly: a lane keeps one of two vectors and adds the other's entry at the lane with bit `s` flipped. -/
def merge (s : BitVec 32) (x : IVec S32x128 32) (a b : FVec F S32x128 .f32) : FVec F S32x128 .f32 :=
  addf (select (low s x) a b) (gath (xori x (broadcast S32x128 s)) (select (low s x) b a))

/-- The butterfly over 2, 4, 8, 16, 32 vectors. -/
def sums2 (x : IVec S32x128 32) (q : ℕ → FVec F S32x128 .f32) : FVec F S32x128 .f32 := merge 1#32 x (q 0) (q 1)
/-- Two stages of the butterfly, on four tiles. -/
def sums4 (x : IVec S32x128 32) (q : ℕ → FVec F S32x128 .f32) : FVec F S32x128 .f32 := sums2 x (fun i => merge 2#32 x (q i) (q (i + 2)))
/-- Three stages, on eight tiles. -/
def sums8 (x : IVec S32x128 32) (q : ℕ → FVec F S32x128 .f32) : FVec F S32x128 .f32 := sums4 x (fun i => merge 4#32 x (q i) (q (i + 4)))
/-- Four stages, on sixteen tiles. -/
def sums16 (x : IVec S32x128 32) (q : ℕ → FVec F S32x128 .f32) : FVec F S32x128 .f32 := sums8 x (fun i => merge 8#32 x (q i) (q (i + 8)))
/-- All five stages, on 32 tiles. -/
def sums32 (x : IVec S32x128 32) (q : ℕ → FVec F S32x128 .f32) : FVec F S32x128 .f32 := sums16 x (fun i => merge 16#32 x (q i) (q (i + 16)))

/-- The root of the mean square, and the quantiser's scale argument, of the block sums `q`. -/
def rmsVec (q : FVec F S32x128 .f32) : FVec F S32x128 .f32 := k0_pay92 q k0_pay91
/-- The number whose exponent is taken, from the sums of squares. -/
def argVec (q : FVec F S32x128 .f32) : FVec F S32x128 .f32 := k0_pay93 q k0_pay91

/-- One step of the search for the exponent field of `a`. -/
def field (p : BitVec 32) (a : FVec F S32x128 .f32) (f : IVec S32x128 32) : IVec S32x128 32 :=
  select (cmpf .oge a (bitcastToFloat .f32 (shli (addi f (broadcast S32x128 p)) (broadcast S32x128 23#32))))
    (addi f (broadcast S32x128 p)) f

/-- The exponent field of `a`, by search over its eight bits. -/
def fields (a : FVec F S32x128 .f32) : IVec S32x128 32 :=
  field 1#32 a (field 2#32 a (field 4#32 a (field 8#32 a (field 16#32 a (field 32#32 a (field 64#32 a (field 128#32 a (broadcast S32x128 0#32))))))))

/-- The exponent of a block. -/
def expVec (q : FVec F S32x128 .f32) : IVec S32x128 32 :=
  select (cmpf .oeq (rmsVec q) (broadcast S32x128 (Scalar.ofBits .f32 0x00000000#32))) (broadcast S32x128 0#32)
    (select (cmpi .eq (fields (argVec q)) (broadcast S32x128 255#32)) (broadcast S32x128 4294967295#32)
      (subi (fields (argVec q)) (broadcast S32x128 127#32)))

/-- The power of two with exponent `e`, built in its exponent field. -/
def powVec (e : IVec S32x128 32) : FVec F S32x128 .f32 := bitcastToFloat .f32 (shli (addi e (broadcast S32x128 127#32)) (broadcast S32x128 23#32))

/-- The negated exponents. -/
def negVec (e : IVec S32x128 32) : IVec S32x128 32 := subi (broadcast S32x128 0#32) e

/-- The scale codes: the exponents in block order, biased. -/
def scaleVec (w e : IVec S32x128 32) : IVec S32x128 8 :=
  trunci 8 (addi (gath w e) (broadcast S32x128 127#32)) natLt_8_32

/-- The first row of trip `k`. -/
def row (k : Fin k0_t1_loop.trips) : ℕ := (Scalar.indexCast (Scalar.muli (Scf.iv 0#32 1#32 k.val) 32#32)).toNat

/-- The lane indices of tile `v`. -/
def laneVec (v : ℕ) (x : IVec S32x128 32) : IVec S32x128 32 := addi x (broadcast S32x128 (BitVec.ofNat 32 v))

/-- The scaled values of tile `v`. -/
def valVec (v : ℕ) (x : IVec S32x128 32) (p r : FVec F S32x128 .f32) : FVec F S32x128 .f32 := mulf r (gath (laneVec v x) p)

/-- The clipped magnitudes. -/
def magVec (u : FVec F S32x128 .f32) : FVec F S32x128 .f32 := minimumf (absf u) (broadcast S32x128 (Scalar.ofBits .f32 0x40C00000#32))

/-- The unit of the last kept place of a magnitude: half the power of two at or below it, and a half below one. -/
def unitVec (a : FVec F S32x128 .f32) : FVec F S32x128 .f32 :=
  bitcastToFloat .f32 (subi (maxsi (shli (fields a) (broadcast S32x128 23#32)) (broadcast S32x128 1065353216#32)) (broadcast S32x128 8388608#32))

/-- The rounded values. -/
def codeVec (u : FVec F S32x128 .f32) : FVec F S32x128 .f32 :=
  mulf (mulf (roundeven (divf (magVec u) (unitVec (magVec u)))) (unitVec (magVec u)))
    (select (cmpf .olt u (constant S32x128 .f32 0x00000000#32)) (constant S32x128 .f32 0xBF800000#32) (constant S32x128 .f32 0x3F800000#32))

/-- The clip bits. -/
def bitVec (u : FVec F S32x128 .f32) : FVec F S32x128 .fp8e4m3 :=
  shapeCast S32x128 (truncf .fp8e4m3 (select (cmpf .ole (absf u) (broadcast S32x128 (Scalar.ofBits .f32 0x40C00000#32)))
    (broadcast S32x128 (Scalar.ofBits .f32 0x3F800000#32)) (broadcast S32x128 (Scalar.ofBits .f32 0x00000000#32))) bitsLt_fp8e4m3_f32)
    shapeCasts_S32x128_S32x128

/-- The loop makes 8 trips. -/
theorem trips_eq : k0_t1_loop.trips = 8 := by decide +kernel

/-- The first row of trip `k`, computed in words, is `32 k`. -/
theorem row_val (k : Fin k0_t1_loop.trips) : row k = 32 * k.val := by
  have h : ∀ k : Fin 8, (Scalar.indexCast (Scalar.muli (Scf.iv 0#32 1#32 k.val) 32#32)).toNat = 32 * k.val := by decide +kernel
  exact h ⟨k.val, Nat.lt_of_lt_of_eq k.isLt trips_eq⟩

/-- Rows `32 k .. 32 k + 31`, columns `128 v .. 128 v + 127` of a 256 × 4096 block lie inside it. -/
theorem tile_inb (k : Fin k0_t1_loop.trips) (v : Fin 32) (a : Fin 2) : ![row k, 128 * v.val] a + ![32, 128] a ≤ S256x4096.size a := by
  have hk : k.val < 8 := Nat.lt_of_lt_of_eq k.isLt trips_eq
  have hv := v.isLt
  rw [row_val k]
  match a with
  | 0 => show 32 * k.val + 32 ≤ 256; omega
  | 1 => show 128 * v.val + 128 ≤ 4096; omega

/-- Rows `32 k .. 32 k + 31` of a 256 × 128 block lie inside it. -/
theorem scale_inb (k : Fin k0_t1_loop.trips) (a : Fin 2) : ![row k, 0] a + ![32, 128] a ≤ S256x128.size a := by
  have hk : k.val < 8 := Nat.lt_of_lt_of_eq k.isLt trips_eq
  rw [row_val k]
  match a with
  | 0 => show 32 * k.val + 32 ≤ 256; omega
  | 1 => show 0 + 128 ≤ 128; omega

/-- The rectangle of tile `v` in trip `k`. -/
abbrev tileRect (k : Fin k0_t1_loop.trips) (v : Fin 32) : Rect S256x4096 := Rect.unit ![row k, 128 * v.val] ![32, 128] (tile_inb k v)

/-- The 32 tiles of trip `k`, squared. -/
def squares (X : S256x4096.Idx → Elt F .f32) (k : Fin k0_t1_loop.trips) (v : ℕ) : FVec F S32x128 .f32 :=
  if h : v < 32 then mulf (View.ld X (tileRect k ⟨v, h⟩)) (View.ld X (tileRect k ⟨v, h⟩)) else k0_pay91

/-- The block sums of trip `k`, lane by lane. -/
def tripSums (x : IVec S32x128 32) (X : S256x4096.Idx → Elt F .f32) (k : Fin k0_t1_loop.trips) : FVec F S32x128 .f32 := sums32 x (squares X k)

section trip
variable (𝒱 : Variants) (c : Dev nD) (bd : Option 𝒱.V) (i : grid0.Coords) (arg1 : Memref sig .tc .vmem S256x4096 .bf16) (harg1 : arg1.IsWhole) (arg2 : Memref sig .tc .vmem S256x4096 .fp8e4m3) (harg2 : arg2.IsWhole) (arg3 : Memref sig .tc .vmem S256x128 .i8) (harg3 : arg3.IsWhole) (arg4 : Memref sig .tc .vmem S256x512 .i8) (harg4 : arg4.IsWhole) (arg5 : Memref sig .tc .vmem S256x4096 .bf16) (harg5 : arg5.IsWhole) (arg6 : Memref sig .tc .vmem S256x256 .bf16) (harg6 : arg6.IsWhole) (arg7 : Memref sig .tc .vmem S2048x256 .fp8e4m3) (harg7 : arg7.IsWhole) (arg8 : Memref sig .tc .vmem S256x4096 .f32) (harg8 : arg8.IsWhole) (arg9 : Memref sig .tc .vmem S256x4096 .fp8e4m3) (harg9 : arg9.IsWhole) (v131 v174 v176 : IVec S32x128 32) (v190 : IVec S32x128 1) (v192 : IVec S32x128 32) (X_arg8 : BufTy.Contents (Elt F) arg8.view.ty) (k : Fin k0_t1_loop.trips)

/-- The exponents of trip `k`, as the trip names them. -/
theorem exp_eq : trip_k0_t1.sl.r_71 (F := F) arg8 v131 X_arg8 k = expVec (tripSums v131 (arg8.view.read (Elt F) X_arg8) k) := by
  rfl

/-- The inverse powers of trip `k`, as the trip names them. -/
theorem inv_eq : trip_k0_t1.sl.r_73 (F := F) arg8 v131 X_arg8 k = powVec (negVec (expVec (tripSums v131 (arg8.view.read (Elt F) X_arg8) k))) := by
  rfl

/-- The forward powers of trip `k`, as the trip names them. -/
theorem fwd_eq : trip_k0_t1.sl.r_74 (F := F) arg8 v131 X_arg8 k = powVec (expVec (tripSums v131 (arg8.view.read (Elt F) X_arg8) k)) := by
  rfl

/-- The scaled values of tile `v` of a trip with exponents `e`. -/
def tileVal (x : IVec S32x128 32) (X : S256x4096.Idx → Elt F .f32) (k : Fin k0_t1_loop.trips) (p : FVec F S32x128 .f32) (v : Fin 32) :
    FVec F S32x128 .f32 := valVec v.val x p (View.ld X (tileRect k v))

/-- The pieces trip `k` stores for tile `v`: codes, scaled codes and clip bits. -/
def codePiece (x : IVec S32x128 32) (X : S256x4096.Idx → Elt F .f32) (k : Fin k0_t1_loop.trips) (p : FVec F S32x128 .f32) (v : Fin 32) :
    View.Piece (Elt F) S256x4096 .fp8e4m3 :=
  ⟨tileRect k v, truncf .fp8e4m3 (codeVec (tileVal x X k p v)) bitsLt_fp8e4m3_f32⟩
/-- The dequantised values a trip writes at tile `v`. -/
def backPiece (x : IVec S32x128 32) (X : S256x4096.Idx → Elt F .f32) (k : Fin k0_t1_loop.trips) (p f : FVec F S32x128 .f32) (v : Fin 32) :
    View.Piece (Elt F) S256x4096 .bf16 :=
  ⟨tileRect k v, truncf .bf16 (mulf (codeVec (tileVal x X k p v)) (gath (laneVec v.val x) f)) bitsLt_bf16_f32⟩
/-- The mask bits a trip writes at tile `v`. -/
def bitPiece (x : IVec S32x128 32) (X : S256x4096.Idx → Elt F .f32) (k : Fin k0_t1_loop.trips) (p : FVec F S32x128 .f32) (v : Fin 32) :
    View.Piece (Elt F) S256x4096 .fp8e4m3 :=
  ⟨tileRect k v, bitVec (tileVal x X k p v)⟩
/-- The piece trip `k` stores of the scale codes. -/
def scalePiece (w e : IVec S32x128 32) (k : Fin k0_t1_loop.trips) : View.Piece (Elt F) S256x128 .i8 :=
  ⟨Rect.unit ![row k, 0] ![32, 128] (scale_inb k), scaleVec w e⟩

/-- The writes of a trip to the codes: one per tile. -/
theorem trip_codes :
    (tripL_k0_t1 (F := F) 𝒱 c bd i arg1 harg1 arg2 harg2 arg3 harg3 arg4 harg4 arg5 harg5 arg6 harg6 arg7 harg7 arg8 harg8 arg9 harg9 v131 v174 v176 v190 v192 X_arg8 k).1
      = (List.finRange 32).reverse.map (codePiece (k0_pay1 v176 v190 v192) (arg8.view.read (Elt F) X_arg8) k (trip_k0_t1.sl.r_73 (F := F) arg8 v131 X_arg8 k)) := by
  unfold tripL_k0_t1 trip_k0_t1
  dsimp only
  rfl

/-- The write of a trip to the scale codes. -/
theorem trip_scales :
    (tripL_k0_t1 (F := F) 𝒱 c bd i arg1 harg1 arg2 harg2 arg3 harg3 arg4 harg4 arg5 harg5 arg6 harg6 arg7 harg7 arg8 harg8 arg9 harg9 v131 v174 v176 v190 v192 X_arg8 k).2.1
      = [scalePiece v174 (trip_k0_t1.sl.r_71 (F := F) arg8 v131 X_arg8 k) k] := by
  unfold tripL_k0_t1 trip_k0_t1
  dsimp only
  rfl

/-- The writes of a trip to the dequantised values: one per tile. -/
theorem trip_back :
    (tripL_k0_t1 (F := F) 𝒱 c bd i arg1 harg1 arg2 harg2 arg3 harg3 arg4 harg4 arg5 harg5 arg6 harg6 arg7 harg7 arg8 harg8 arg9 harg9 v131 v174 v176 v190 v192 X_arg8 k).2.2.1
      = (List.finRange 32).reverse.map (backPiece (k0_pay1 v176 v190 v192) (arg8.view.read (Elt F) X_arg8) k (trip_k0_t1.sl.r_73 (F := F) arg8 v131 X_arg8 k) (trip_k0_t1.sl.r_74 (F := F) arg8 v131 X_arg8 k)) := by
  unfold tripL_k0_t1 trip_k0_t1
  dsimp only
  rfl

/-- The writes of a trip to the mask bits: one per tile. -/
theorem trip_bits :
    (tripL_k0_t1 (F := F) 𝒱 c bd i arg1 harg1 arg2 harg2 arg3 harg3 arg4 harg4 arg5 harg5 arg6 harg6 arg7 harg7 arg8 harg8 arg9 harg9 v131 v174 v176 v190 v192 X_arg8 k).2.2.2
      = (List.finRange 32).reverse.map (bitPiece (k0_pay1 v176 v190 v192) (arg8.view.read (Elt F) X_arg8) k (trip_k0_t1.sl.r_73 (F := F) arg8 v131 X_arg8 k)) := by
  unfold tripL_k0_t1 trip_k0_t1
  dsimp only
  rfl

end trip

end Cert.QuantiseIdeal.Qx
-- ==== Proof.Butterfly.lean ====
module

public import proofs.«01_k».proof.Proof.Trip

/-! The butterfly: merging 32 vectors five times, each time keeping one of two and adding the other's entry across one bit of the lane,
leaves in lane `l` the sum of the 32 entries of vector `l % 32` that share the lane's quarter. -/

@[expose] public section
set_option maxRecDepth 65536
noncomputable section
namespace Cert.QuantiseIdeal.Qx
open Cert.QuantiseIdeal Cert.QuantiseIdeal.Gen Idealize.ShloMosaic Idealize.ShloMosaic.TcCoe Idealize.SL.Sem Idealize.ShloMosaic.Tactic

/-- The lane indices. -/
abbrev lanes : IVec S32x128 32 := iota Kind.tc S32x128 32 [1] iota_S32x128_d1_w32

/-- The lane across the bits `m`. -/
abbrev across (l : Fin 128) (m : ℕ) : Fin 128 := ⟨(l.val ^^^ m) % 128, Nat.mod_lt _ (by decide)⟩

/-- The lane word combined with a power of two by exclusive or, as an index. -/
theorem lane_word : ∀ (p : Fin 5) (l : Fin 128),
    (IntOp.cmpi .eq (IntOp.andi (BitVec.ofNat 32 l.val) (BitVec.ofNat 32 (2 ^ p.val))) 0#32 = if l.val / 2 ^ p.val % 2 = 0 then 1#1 else 0#1)
    ∧ (wrapWord (IntOp.xori (BitVec.ofNat 32 l.val) (BitVec.ofNat 32 (2 ^ p.val)))).toNat % 128 = (l.val ^^^ 2 ^ p.val) % 128
    ∧ (((l.val ^^^ 2 ^ p.val) % 128) / 2 ^ p.val % 2 = 1 - l.val / 2 ^ p.val % 2) := by
  decide +kernel

/-- One merge, of vectors `i` and `i + 2 ^ p` of a family. -/
theorem merge_apply (p : Fin 5) (q : ℕ → FVec Ideal S32x128 .f32) (i : ℕ) (r : Fin 32) (l : Fin 128) :
    merge (BitVec.ofNat 32 (2 ^ p.val)) lanes (q i) (q (i + 2 ^ p.val)) (ix2 r l)
      = (q (i + 2 ^ p.val * (l.val / 2 ^ p.val % 2)) (ix2 r l)
        + q (i + 2 ^ p.val * (l.val / 2 ^ p.val % 2)) (ix2 r (across l (2 ^ p.val))) : EReal) := by
  obtain ⟨h1, h2, h3⟩ := lane_word p l
  have h4 := (lane_word p (across l (2 ^ p.val))).1
  pointwise [merge, low, gath]
  have hx : (⟨(wrapWord (IntOp.xori (BitVec.ofNat 32 l.val) (BitVec.ofNat 32 (2 ^ p.val)))).toNat % 128, Nat.mod_lt _ (by decide)⟩ : Fin 128)
      = across l (2 ^ p.val) := Fin.ext h2
  have h5 : IntOp.cmpi .eq (IntOp.andi (BitVec.ofNat 32 ((l.val ^^^ 2 ^ p.val) % 128)) (BitVec.ofNat 32 (2 ^ p.val))) 0#32
      = if (l.val ^^^ 2 ^ p.val) % 128 / 2 ^ p.val % 2 = 0 then 1#1 else 0#1 := h4
  rw [hx, h2, h1, h5, h3]
  rcases Nat.mod_two_eq_zero_or_one (l.val / 2 ^ p.val) with h | h
  · rw [h, Nat.mul_zero, Nat.add_zero, if_pos rfl, if_neg (by decide)]
    rfl
  · rw [h, Nat.mul_one, if_neg (by decide), if_pos (by decide)]
    rfl

/-- A sum over `2 n` numbers, taken in pairs. -/
theorem sum_double (n : ℕ) (f : ℕ → EReal) : ∑ m ∈ Finset.range (2 * n), f m = ∑ m ∈ Finset.range n, (f (2 * m) + f (2 * m + 1)) := by
  induction n with
  | zero => rfl
  | succ n ih => rw [Nat.mul_succ, Finset.sum_range_succ, Finset.sum_range_succ, ih, Finset.sum_range_succ, add_assoc]

/-- How `across` moves under one stage of the butterfly. -/
theorem across_facts : ∀ (p : Fin 5) (l : Fin 128),
    (2 ^ p.val * (l.val / 2 ^ p.val % 2) + 2 * 2 ^ p.val * (l.val % 32 / (2 * 2 ^ p.val)) = 2 ^ p.val * (l.val % 32 / 2 ^ p.val))
    ∧ (across l (2 ^ p.val)).val % 32 / (2 * 2 ^ p.val) = l.val % 32 / (2 * 2 ^ p.val)
    ∧ ∀ m : Fin 16, across (across l (2 ^ p.val)) (2 * 2 ^ p.val * m.val) = across l (2 ^ p.val * (2 * m.val + 1)) := by
  decide +kernel

/-- One level of the butterfly doubles the number of entries summed. -/
theorem level (p : Fin 5) (n : ℕ) (hn : n ≤ 16) (q Q : ℕ → FVec Ideal S32x128 .f32) (r : Fin 32)
    (h : ∀ (i : ℕ) (l : Fin 128), Q i (ix2 r l) = ∑ m ∈ Finset.range n, (q (i + 2 * 2 ^ p.val * (l.val % 32 / (2 * 2 ^ p.val))) (ix2 r (across l (2 * 2 ^ p.val * m))) : EReal))
    (i : ℕ) (l : Fin 128) :
    merge (BitVec.ofNat 32 (2 ^ p.val)) lanes (Q i) (Q (i + 2 ^ p.val)) (ix2 r l)
      = ∑ m ∈ Finset.range (2 * n), (q (i + 2 ^ p.val * (l.val % 32 / 2 ^ p.val)) (ix2 r (across l (2 ^ p.val * m))) : EReal) := by
  obtain ⟨h1, h2, h3⟩ := across_facts p l
  rw [merge_apply, h, h, sum_double, ← Finset.sum_add_distrib]
  refine Finset.sum_congr rfl fun m hm => ?_
  rw [h2, add_assoc, h1, h3 ⟨m, by have := Finset.mem_range.mp hm; omega⟩]
  rw [show 2 * 2 ^ p.val * m = 2 ^ p.val * (2 * m) by ring]

/-- `across l 0` is `l`. -/
theorem across_zero : ∀ l : Fin 128, across l 0 = l := by decide +kernel
/-- `across` stays within the 32 lanes of its quarter. -/
theorem across_quarter : ∀ (l : Fin 128) (m : Fin 32), (across l m.val).val = 32 * (l.val / 32) + (m.val ^^^ (l.val % 32)) % 32 := by decide +kernel
/-- Exclusive or with the same number twice changes nothing. -/
theorem xor_twice : ∀ (a m : Fin 32), (((m.val ^^^ a.val) % 32) ^^^ a.val) % 32 = m.val := by decide +kernel

/-- The whole butterfly. -/
theorem sums32_apply (q : ℕ → FVec Ideal S32x128 .f32) (r : Fin 32) (l : Fin 128) :
    sums32 lanes q (ix2 r l) = ∑ j : Fin 32, (q (l.val % 32) (ix2 r ⟨32 * (l.val / 32) + j.val, by omega⟩) : EReal) := by
  have e32 : ∀ (i : ℕ) (l : Fin 128), q i (ix2 r l) = ∑ m ∈ Finset.range 1, (q (i + 2 * 2 ^ 4 * (l.val % 32 / (2 * 2 ^ 4))) (ix2 r (across l (2 * 2 ^ 4 * m))) : EReal) := by
    intro i l
    rw [Finset.sum_range_one, mul_zero, across_zero, show l.val % 32 / (2 * 2 ^ 4) = 0 by omega, mul_zero, add_zero]
  have e16 := level 4 1 (by decide) q q r e32
  have e8 := level 3 2 (by decide) q _ r e16
  have e4 := level 2 4 (by decide) q _ r e8
  have e2 := level 1 8 (by decide) q _ r e4
  have e1 := level 0 16 (by decide) q _ r e2 0 l
  refine (show sums32 lanes q (ix2 r l) = _ from rfl).trans (e1.trans ?_)
  clear e1 e2 e4 e8 e16 e32
  rw [Finset.sum_range (n := 2 * 16)]
  have hp : Function.Involutive fun m : Fin 32 => (⟨(m.val ^^^ (l.val % 32)) % 32, Nat.mod_lt _ (by decide)⟩ : Fin 32) :=
    fun m => Fin.ext (xor_twice ⟨l.val % 32, Nat.mod_lt _ (by decide)⟩ m)
  refine Eq.trans (Finset.sum_congr rfl fun m _ => ?_)
    (Equiv.sum_comp (Function.Involutive.toPerm _ hp) fun j : Fin 32 => (q (l.val % 32) (ix2 r ⟨32 * (l.val / 32) + j.val, by omega⟩) : EReal))
  have ha := across_quarter l m
  have hb : (⟨32 * (l.val / 32) + (m.val ^^^ (l.val % 32)) % 32, by omega⟩ : Fin 128) = across l m.val := Fin.ext ha.symm
  show (q (0 + 2 ^ 0 * (l.val % 32 / 2 ^ 0)) (ix2 r (across l (2 ^ 0 * m.val))) : EReal)
    = q (l.val % 32) (ix2 r ⟨32 * (l.val / 32) + (m.val ^^^ (l.val % 32)) % 32, by omega⟩)
  rw [hb, pow_zero, one_mul, one_mul, Nat.div_one, zero_add]
end Cert.QuantiseIdeal.Qx
-- ==== Proof.Exponent.lean ====
module

public import proofs.«01_k».proof.Proof.Spec
public import proofs.«01_k».proof.Proof.Scale
public import proofs.«01_k».proof.Proof.Trip
public import Idealize.ShloMosaic.Lib.IndicatorCount

/-! The exponent of a block: the kernel's search through the exponent field finds the number of powers of two below its argument. -/

@[expose] public section
set_option maxRecDepth 65536
noncomputable section
namespace Cert.QuantiseIdeal.Qx
open Cert.QuantiseIdeal Cert.QuantiseIdeal.Gen Idealize.ShloMosaic Idealize.ShloMosaic.TcCoe Idealize.SL.Sem Idealize.ShloMosaic.Tactic

/-- The float with exponent field `n`. -/
def fieldFloat (n : ℕ) : EReal := Ideal.ofBits .f32 (IntOp.shli .vector (BitVec.ofNat 32 n) 23#32)

/-- Sign, exponent and mantissa of the word with exponent field `n` and nothing else. -/
theorem fieldFloat_words : ∀ n : Fin 256, (IntOp.shli .vector (BitVec.ofNat 32 n.val) 23#32).extractLsb' 31 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

/-- The float with exponent field `n`, in numbers. -/
theorem fieldFloat_eq (n : ℕ) (hn : n < 256) :
    fieldFloat n = if n = 255 then (⊤ : EReal) else if n = 0 then 0 else (((2 : ℝ) ^ ((n : ℝ) - 127) : ℝ) : EReal) := by
  obtain ⟨h1, h2, h3⟩ := fieldFloat_words ⟨n, hn⟩
  exact Cert.KernelIdeal.Mm.ieee_fields _ n h1 h2 h3

/-- The floats grow with their exponent field. -/
theorem fieldFloat_mono (m n : ℕ) (h : m ≤ n) (hn : n < 256) : fieldFloat m ≤ fieldFloat n := by
  rw [fieldFloat_eq m (by omega), fieldFloat_eq n hn]
  by_cases h1 : n = 255
  · rw [if_pos h1]; exact le_top
  · rw [if_neg h1, if_neg (by omega : m ≠ 255)]
    by_cases h2 : m = 0
    · rw [if_pos h2]
      by_cases h3 : n = 0
      · rw [if_pos h3]
      · rw [if_neg h3, ← EReal.coe_zero, EReal.coe_le_coe_iff]; positivity
    · rw [if_neg h2, if_neg (by omega : n ≠ 0), EReal.coe_le_coe_iff]
      refine Real.rpow_le_rpow_of_exponent_le (by norm_num) ?_
      have : (m : ℝ) ≤ n := by exact_mod_cast h
      linarith

/-- One step of the search. -/
def find (p : ℕ) (a : EReal) (f : ℕ) : ℕ := if fieldFloat (f + p) ≤ a then f + p else f

/-- The search. -/
def search (a : EReal) : ℕ := find 1 a (find 2 a (find 4 a (find 8 a (find 16 a (find 32 a (find 64 a (find 128 a 0)))))))

/-- What is known after the bits down to `p` have been tried. -/
structure Found (a : EReal) (p f : ℕ) : Prop where
  bound : f + p ≤ 256
  below : f = 0 ∨ fieldFloat f ≤ a
  above : f + p = 256 ∨ ¬ fieldFloat (f + p) ≤ a

/-- One step of the search halves the width of what is left. -/
theorem Found.step {a : EReal} {p f : ℕ} (h : Found a (2 * p) f) : Found a p (find p a f) := by
  obtain ⟨h1, h2, h3⟩ := h
  unfold find
  split_ifs with hc
  · refine ⟨by omega, .inr hc, ?_⟩
    rw [show f + p + p = f + 2 * p by ring]; exact h3
  · exact ⟨by omega, h2, .inr hc⟩

/-- The eight steps of the search end at the exponent field. -/
theorem search_found (a : EReal) : Found a 1 (search a) := by
  have h0 : Found a (2 * 128) 0 := ⟨by decide, .inl rfl, .inl rfl⟩
  exact h0.step.step (p := 64) |>.step (p := 32) |>.step (p := 16) |>.step (p := 8) |>.step (p := 4) |>.step (p := 2) |>.step (p := 1)

/-- The search in words. -/
theorem fields_apply (a : FVec Ideal S32x128 .f32) (y : S32x128.Idx) : fields a y = BitVec.ofNat 32 (search (a y)) := by
  have step : ∀ (p : ℕ) (f : IVec S32x128 32) (n : ℕ), f y = BitVec.ofNat 32 n → field (BitVec.ofNat 32 p) a f y = BitVec.ofNat 32 (find p (a y) n) := by
    intro p f n hf
    show Scalar.select (BitVec.ofBool (decide (Ideal.ofBits .f32 (IntOp.shli .vector (f y + BitVec.ofNat 32 p) 23#32) ≤ a y))) (f y + BitVec.ofNat 32 p) (f y) = _
    rw [hf, Spec.select_ofBool, ← BitVec.ofNat_add]
    unfold find fieldFloat
    split_ifs <;> rfl
  exact step 1 _ _ (step 2 _ _ (step 4 _ _ (step 8 _ _ (step 16 _ _ (step 32 _ _ (step 64 _ _ (step 128 _ _ rfl)))))))

/-- The exponents `t - 126` the reference compares with, as integers. -/
theorem power_words : ∀ t : Fin 254, (IntOp.subi (BitVec.ofNat 32 t.val) 126#32).toInt = (t.val : ℤ) - 126 := by decide +kernel

/-- The powers of two that the count compares with are the floats with the exponent fields from 1 to 254. -/
theorem power_field (t : Fin 254) : Ideal.exp2 (((IntOp.subi (BitVec.ofNat 32 t.val) 126#32).toInt : ℝ) : EReal) = fieldFloat (t.val + 1) := by
  rw [power_words, fieldFloat_eq _ (by omega), if_neg (by omega), if_neg (by omega), Ideal.exp2_coe]
  congr 1
  show Real.rpow 2 _ = Real.rpow 2 _
  congr 1
  push_cast
  ring

/-- The search finds the count, capped by the number of powers. -/
theorem count_search (a : EReal) : Spec.count a = BitVec.ofNat 32 (min 254 (search a)) := by
  obtain ⟨h1, h2, h3⟩ := search_found a
  unfold Spec.count
  rw [IndicatorCount.fold_addi_setWidth_eq_card (fun t : Fin 254 => Ideal.cmp .ole (Ideal.exp2 (((IntOp.subi (BitVec.ofNat 32 t.val) 126#32).toInt : ℝ) : EReal)) a)]
  congr 1
  have hf : (Finset.univ.filter fun t : Fin 254 => Ideal.cmp .ole (Ideal.exp2 (((IntOp.subi (BitVec.ofNat 32 t.val) 126#32).toInt : ℝ) : EReal)) a = 1#1)
      = Finset.univ.filter fun t : Fin 254 => t.val < search a := by
    refine Finset.filter_congr fun t _ => ?_
    rw [power_field]
    show BitVec.ofBool (decide (fieldFloat (t.val + 1) ≤ a)) = 1#1 ↔ _
    by_cases ht : t.val < search a
    · have : fieldFloat (t.val + 1) ≤ a := by
        rcases h2 with h2 | h2
        · omega
        · exact (fieldFloat_mono _ _ (by omega) (by omega)).trans h2
      simp [ht, this]
    · have : ¬ fieldFloat (t.val + 1) ≤ a := by
        rcases h3 with h3 | h3
        · have := t.isLt; omega
        · exact fun hc => h3 ((fieldFloat_mono _ _ (by omega) (by have := t.isLt; omega)).trans hc)
      simp [ht, this]
  rw [hf]
  have hc : (Finset.univ.filter fun t : Fin 254 => t.val < search a) = (Finset.range (min 254 (search a))).attachFin (fun n hn => by
      have := Finset.mem_range.mp hn; omega) := by
    ext t
    simp only [Finset.mem_filter, Finset.mem_univ, true_and, Finset.mem_attachFin, Finset.mem_range]
    have := t.isLt
    omega
  rw [hc, Finset.card_attachFin, Finset.card_range]

/-- The search reaches the last field exactly at infinity. -/
theorem search_top (a : EReal) : search a = 255 ↔ a = ⊤ := by
  obtain ⟨h1, h2, h3⟩ := search_found a
  constructor
  · intro h
    rw [h] at h2
    rcases h2 with h2 | h2
    · omega
    · rw [fieldFloat_eq 255 (by decide), if_pos rfl] at h2; exact top_le_iff.mp h2
  · intro h
    rcases h3 with h3 | h3
    · omega
    · exact absurd (h ▸ le_top) h3

/-- The word of `n` is 255 just when `n` is. -/
theorem field_ne : ∀ n : Fin 256, (BitVec.ofNat 32 n.val = 255#32 ↔ n.val = 255) := by decide +kernel

/-- The kernel's exponents are the specified ones. -/
theorem exponent_eq (ρ a : EReal) :
    (if ρ = 0 then 0#32 else if BitVec.ofNat 32 (search a) = 255#32 then 4294967295#32 else BitVec.ofNat 32 (search a) - 127#32)
      = if ρ = 0 then 0#32 else if a = ⊤ then 4294967295#32 else Spec.count a - 127#32 := by
  have hb := (search_found a).bound
  have h1 := field_ne ⟨search a, by omega⟩
  have h2 := search_top a
  split_ifs with h3 h4 h5 h6
  · rfl
  · rfl
  · exact absurd (h2.mp (h1.mp h4)) h5
  · exact absurd (h1.mpr (h2.mpr h6)) h4
  · have : search a ≠ 255 := fun h => h4 (h1.mpr h)
    rw [count_search, Nat.min_eq_right (by omega)]

/-- Every exponent is a field from 0 to 254 less the bias. -/
theorem expo_range (x : Fin 4096 → EReal) (b : Fin 128) : ∃ n : Fin 255, Spec.expo x b = BitVec.ofNat 32 n.val - 127#32 := by
  unfold Spec.expo
  split_ifs with h1 h2
  · exact ⟨127, by decide⟩
  · exact ⟨126, by decide⟩
  · exact ⟨⟨min 254 (search (Spec.arg x b)), by omega⟩, by rw [count_search]⟩

/-- Taking the bias off and adding it again. -/
theorem bias_words : ∀ n : Fin 255, BitVec.ofNat 32 n.val - 127#32 + 127#32 = BitVec.ofNat 32 n.val
    ∧ 0#32 - (BitVec.ofNat 32 n.val - 127#32) = BitVec.ofNat 32 (254 - n.val) - 127#32
    ∧ (BitVec.ofNat 32 n.val - 127#32 = 4294967169#32 ↔ n.val = 0)
    ∧ (BitVec.ofNat 32 n.val - 127#32).toInt = (n.val : ℤ) - 127 := by decide +kernel

/-- The kernel's power of two, built in its exponent field, is the specified one. -/
theorem power_eq (n : Fin 255) :
    Ideal.ofBits .f32 (IntOp.shli .vector (BitVec.ofNat 32 n.val - 127#32 + 127#32) 23#32) = Spec.power (BitVec.ofNat 32 n.val - 127#32) := by
  obtain ⟨h1, -, h3, h4⟩ := bias_words n
  rw [h1]
  show fieldFloat n.val = _
  unfold Spec.power
  rw [fieldFloat_eq _ (by omega), if_neg (by omega), h4]
  simp only [h3]
  split_ifs with h
  · rfl
  · rw [Ideal.exp2_coe]
    congr 1
    show Real.rpow 2 _ = Real.rpow 2 _
    congr 1
    push_cast
    ring

/-- The forward power of a block. -/
theorem power_fwd (x : Fin 4096 → EReal) (b : Fin 128) :
    Ideal.ofBits .f32 (IntOp.shli .vector (Spec.expo x b + 127#32) 23#32) = Spec.power (Spec.expo x b) := by
  obtain ⟨n, hn⟩ := expo_range x b
  rw [hn]; exact power_eq n

/-- The inverse power of a block. -/
theorem power_inv (x : Fin 4096 → EReal) (b : Fin 128) :
    Ideal.ofBits .f32 (IntOp.shli .vector (0#32 - Spec.expo x b + 127#32) 23#32) = Spec.power (0#32 - Spec.expo x b) := by
  obtain ⟨n, hn⟩ := expo_range x b
  rw [hn, (bias_words n).2.1]
  exact power_eq ⟨254 - n.val, by omega⟩
end Cert.QuantiseIdeal.Qx
-- ==== Proof.Matrices.lean ====
module

public import proofs.«01_k».proof.Proof.Spec
public import proofs.«01_k».proof.Proof.Trip

/-! The kernel's two constant matrices and its lane index vectors, entry by entry. -/

@[expose] public section
set_option maxRecDepth 65536
noncomputable section
namespace Cert.QuantiseIdeal.Qx
open Cert.QuantiseIdeal Cert.QuantiseIdeal.Gen Idealize.ShloMosaic Idealize.ShloMosaic.TcCoe Idealize.SL.Sem Idealize.ShloMosaic.Tactic

/-- The block-diagonal Hadamard matrix, as the kernel builds it. -/
abbrev hadMat : Vec Ideal S256x256 .bf16 := k0_pay7 (F := Ideal) (iota Kind.tc S256x256 32 [1] iota_S256x256_d1_w32) k0_pay5 k0_pay6 32#32

/-- The matrix that packs bits, as the kernel builds it. -/
abbrev packMat : Vec Ideal S2048x256 .fp8e4m3 :=
  k0_pay451 (F := Ideal) (iota Kind.tc S2048x256 32 [0] iota_S2048x256_d0_w32) (iota Kind.tc S2048x256 32 [1] iota_S2048x256_d1_w32) k0_pay8 8#32 k0_pay9 k0_pay10 k0_pay11

/-- Division of words rounded down, the way the kernel spells it. -/
def floorWord (d x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

/-- Floor division of an index by 32, on words. -/
theorem floorWord_32 : ∀ i : Fin 256, floorWord 32#32 (BitVec.ofNat 32 i.val) = BitVec.ofNat 32 (i.val / 32) := by decide +kernel
/-- Floor division of an index by 8, on words. -/
theorem floorWord_8 : ∀ i : Fin 2048, floorWord 8#32 (BitVec.ofNat 32 i.val) = BitVec.ofNat 32 (i.val / 8) := by decide +kernel

/-- The parity of the bits of a five-bit word, by folding, as `1` or `-1`. -/
def foldWord (t : BitVec 32) : BitVec 32 :=
  IntOp.subi 1#32 (IntOp.muli 2#32 (IntOp.andi
    (IntOp.xori (IntOp.xori (IntOp.xori t (IntOp.shrsi .vector t 4#32)) (IntOp.shrsi .vector (IntOp.xori t (IntOp.shrsi .vector t 4#32)) 2#32))
      (IntOp.shrsi .vector (IntOp.xori (IntOp.xori t (IntOp.shrsi .vector t 4#32)) (IntOp.shrsi .vector (IntOp.xori t (IntOp.shrsi .vector t 4#32)) 2#32)) 1#32)) 1#32))

/-- Folding a word onto its last bit gives the parity of the common bits. -/
theorem foldWord_eq : ∀ i j : Fin 32, foldWord (BitVec.ofNat 32 i.val &&& BitVec.ofNat 32 j.val) = Spec.hadWord i.val j.val := by decide +kernel

/-- The bits that two positions share inside their blocks. -/
theorem and_31 (i j : Fin 256) :
    IntOp.andi (IntOp.andi (BitVec.ofNat 32 i.val) (BitVec.ofNat 32 j.val)) 31#32 = BitVec.ofNat 32 (i.val % 32) &&& BitVec.ofNat 32 (j.val % 32) := by
  show (BitVec.ofNat 32 i.val &&& BitVec.ofNat 32 j.val) &&& 31#32 = _
  apply BitVec.eq_of_toNat_eq
  simp only [BitVec.toNat_and, BitVec.toNat_ofNat]
  rw [Nat.mod_eq_of_lt (show i.val < 2 ^ 32 by omega), Nat.mod_eq_of_lt (show j.val < 2 ^ 32 by omega),
    Nat.mod_eq_of_lt (show i.val % 32 < 2 ^ 32 by omega), Nat.mod_eq_of_lt (show j.val % 32 < 2 ^ 32 by omega),
    show (31 % 2 ^ 32 : ℕ) = 2 ^ 5 - 1 from rfl, Nat.and_two_pow_sub_one_eq_mod, Nat.and_mod_two_pow]

/-- The words of two small numbers are equal only if the numbers are. -/
theorem ofNat_inj (x y : ℕ) (hx : x < 2 ^ 32) (hy : y < 2 ^ 32) : BitVec.ofNat 32 x = BitVec.ofNat 32 y ↔ x = y := by
  constructor
  · intro h
    have h' := congrArg BitVec.toNat h
    rwa [BitVec.toNat_ofNat, BitVec.toNat_ofNat, Nat.mod_eq_of_lt hx, Nat.mod_eq_of_lt hy] at h'
  · intro h; rw [h]

/-- The matrix of the rotation: the 32 × 32 Hadamard matrix eight times along the diagonal. -/
theorem hadMat_eq (i j : Fin 256) : hadMat (ix2 i j) = if i.val / 32 = j.val / 32 then Spec.had (i.val % 32) (j.val % 32) else 0 := by
  unfold hadMat
  pointwise [k0_pay7, k0_pay5, k0_pay6]
  show Scalar.select (IntOp.cmpi .eq (floorWord 32#32 (BitVec.ofNat 32 i.val)) (floorWord 32#32 (BitVec.ofNat 32 j.val)))
    (((foldWord (IntOp.andi (IntOp.andi (BitVec.ofNat 32 i.val) (BitVec.ofNat 32 j.val)) 31#32)).toInt : ℝ) : EReal) 0 = _
  have h := foldWord_eq ⟨i.val % 32, by omega⟩ ⟨j.val % 32, by omega⟩
  simp only at h
  rw [floorWord_32, floorWord_32, and_31, h, Spec.select_eq]
  simp only [ofNat_inj _ _ (show i.val / 32 < 2 ^ 32 by omega) (show j.val / 32 < 2 ^ 32 by omega)]
  rfl

/-- A bit weight, in numbers. -/
theorem weight_eq : ∀ i : Fin 2048, (IntOp.shli .vector (1#32) (IntOp.andi (BitVec.ofNat 32 i.val) 7#32)).toInt = ((2 ^ (i.val % 8) : ℕ) : ℤ) := by
  decide +kernel

/-- The matrix that packs eight bits into a byte. -/
theorem packMat_eq (i : Fin 2048) (j : Fin 256) : packMat (ix2 i j) = if i.val / 8 = j.val then (((2 ^ (i.val % 8) : ℕ) : ℝ) : EReal) else 0 := by
  unfold packMat
  pointwise [k0_pay451, k0_pay8, k0_pay9, k0_pay10, k0_pay11]
  show Scalar.select (IntOp.cmpi .eq (floorWord 8#32 (BitVec.ofNat 32 i.val)) (BitVec.ofNat 32 j.val))
    (((IntOp.shli .vector (1#32) (IntOp.andi (BitVec.ofNat 32 i.val) 7#32)).toInt : ℝ) : EReal) 0 = _
  rw [floorWord_8, weight_eq, Spec.select_eq]
  simp only [ofNat_inj _ _ (show i.val / 8 < 2 ^ 32 by omega) (show j.val < 2 ^ 32 by omega)]
  rw [Int.cast_natCast]

/-- The order in which the scale codes leave the lanes. -/
abbrev toBlocks : IVec S32x128 32 := k0_pay473 (iota Kind.tc S32x128 32 [1] iota_S32x128_d1_w32) k0_pay470 k0_pay471 k0_pay472
/-- The first lane of a lane's quarter. -/
abbrev laneBase : IVec S32x128 32 := k0_pay1 (k0_pay474 (iota Kind.tc S32x128 32 [1] iota_S32x128_d1_w32)) (k0_pay475 (iota Kind.tc S32x128 32 [1] iota_S32x128_d1_w32)) (k0_pay476 (iota Kind.tc S32x128 32 [1] iota_S32x128_d1_w32))

/-- The gather index that puts the blocks of a row in order. -/
theorem toBlocks_eq (r : Fin 32) (l : Fin 128) : toBlocks (ix2 r l) = BitVec.ofNat 32 ((l.val % 4) * 32 + l.val / 4) := by
  unfold toBlocks
  pointwise [k0_pay470, k0_pay471, k0_pay472, k0_pay473]
  revert l
  decide +kernel
/-- The first lane of the group of 32 that a lane lies in. -/
theorem laneBase_eq (r : Fin 32) (l : Fin 128) : laneBase (ix2 r l) = BitVec.ofNat 32 ((l.val / 32) * 32) := by
  unfold laneBase
  pointwise [k0_pay1, k0_pay474, k0_pay475, k0_pay476]
  revert l
  decide +kernel
end Cert.QuantiseIdeal.Qx
-- ==== Proof.Rotate.lean ====
module

public import proofs.«01_k».proof.Proof.Trip
public import proofs.«01_k».proof.Proof.Spec
public import proofs.«01_k».proof.Proof.Matrices

/-! The rotation: 16 products of 256 columns with the block-diagonal Hadamard matrix leave the rotated block in the scratch. -/

@[expose] public section
set_option maxRecDepth 65536
set_option maxHeartbeats 4000000
noncomputable section
namespace Cert.QuantiseIdeal.Qx
open Cert.QuantiseIdeal Cert.QuantiseIdeal.Gen Idealize.ShloMosaic Idealize.ShloMosaic.TcCoe Idealize.SL.Sem Idealize.ShloMosaic.Tactic

/-- Row `r` of a block of 256 rows. -/
abbrev rowOf (x0 : Vec Ideal S256x4096 .bf16) (r : Fin 256) (k : Fin 4096) : EReal := x0 (ix2 r k)

/-- The rotated block of rows. -/
def rotated (x0 : Vec Ideal S256x4096 .bf16) : Vec Ideal S256x4096 .f32 := fun y =>
  Spec.rot (rowOf x0 (y 0)) ⟨(y 1).val / 32, by have : (y 1).val < 4096 := (y 1).isLt; omega⟩ ⟨(y 1).val % 32, Nat.mod_lt _ (by decide)⟩

/-- A slice of 256 columns lies within the row block. -/
theorem col_inb (c : Fin 16) (a : Fin 2) : ![0, 256 * c.val] a + ![256, 256] a ≤ S256x4096.size a := by
  have hc := c.isLt
  match a with
  | 0 => show 0 + 256 ≤ 256; omega
  | 1 => show 256 * c.val + 256 ≤ 4096; omega

/-- Columns `256 c .. 256 c + 255`. -/
abbrev colRect (c : Fin 16) : Rect S256x4096 := Rect.unit ![0, 256 * c.val] ![256, 256] (col_inb c)

/-- What is stored to those columns. -/
def rotPiece (x0 : Vec Ideal S256x4096 .bf16) (H : FVec Ideal S256x256 .bf16) (c : Fin 16) : View.Piece (Elt Ideal) S256x4096 .f32 :=
  ⟨colRect c, k0_pay452 (F := Ideal) (View.ld x0 (colRect c)) H⟩

/-- A sum over 256 positions of which only those of one block of 32 count. -/
theorem sum_block (g : Fin 8) (f h : Fin 256 → EReal) :
    ∑ k : Fin 256, f k * (if k.val / 32 = g.val then h k else 0) = ∑ j : Fin 32, f ⟨32 * g.val + j.val, by omega⟩ * h ⟨32 * g.val + j.val, by omega⟩ := by
  symm
  refine Finset.sum_of_injOn (fun j : Fin 32 => (⟨32 * g.val + j.val, by omega⟩ : Fin 256)) ?_ (by intro _ _; exact Finset.mem_coe.2 (Finset.mem_univ _)) ?_ ?_
  · intro a _ b _ hab
    have := congrArg Fin.val hab
    simp only at this
    exact Fin.ext (by omega)
  · intro k _ hk
    rw [if_neg, mul_zero]
    intro hg
    exact hk ⟨⟨k.val % 32, Nat.mod_lt _ (by decide)⟩, Finset.mem_coe.2 (Finset.mem_univ _), Fin.ext (by show 32 * g.val + k.val % 32 = k.val; omega)⟩
  · intro j _
    dsimp only
    rw [if_pos (by omega)]

/-- An element of a slice of columns of `x`. -/
theorem col_apply (x0 : Vec Ideal S256x4096 .bf16) (c : Fin 16) (r l : Fin 256) :
    k0_pay452 (F := Ideal) (View.ld x0 (colRect c)) hadMat (ix2 r l) = rotated x0 (ix2 r ⟨256 * c.val + l.val, by omega⟩) := by
  have hl := l.isLt
  have hc := c.isLt
  have h : k0_pay452 (F := Ideal) (View.ld x0 (colRect c)) hadMat (ix2 r l)
      = ((∑ k : Fin 256, (x0 (ix2 r ⟨256 * c.val + k.val, by omega⟩) : EReal) * hadMat (ix2 k l)) * Ideal.ofBits .f32 0x3E3504F3#32 : EReal) := by
    generalize hadMat = H
    pointwise [k0_pay452]
  rw [h]
  unfold rotated Spec.rot
  refine congrArg (· * Ideal.ofBits .f32 0x3E3504F3#32) ?_
  simp only [hadMat_eq]
  rw [sum_block ⟨l.val / 32, by omega⟩ (fun k => x0 (ix2 r ⟨256 * c.val + k.val, by omega⟩)) (fun k => Spec.had (k.val % 32) (l.val % 32))]
  refine Finset.sum_congr rfl fun j _ => ?_
  have e1 : (⟨256 * c.val + (32 * (l.val / 32) + j.val), by omega⟩ : Fin 4096) = ⟨32 * ((256 * c.val + l.val) / 32) + j.val, by omega⟩ := Fin.ext (by
    show 256 * c.val + (32 * (l.val / 32) + j.val) = 32 * ((256 * c.val + l.val) / 32) + j.val; omega)
  have e2 : (32 * (l.val / 32) + j.val) % 32 = j.val := by omega
  have e3 : l.val % 32 = (256 * c.val + l.val) % 32 := by omega
  show (x0 (ix2 r ⟨256 * c.val + (32 * (l.val / 32) + j.val), _⟩) : EReal) * Spec.had ((32 * (l.val / 32) + j.val) % 32) (l.val % 32) = x0 (ix2 r ⟨32 * ((256 * c.val + l.val) / 32) + j.val, _⟩) * Spec.had j.val ((256 * c.val + l.val) % 32)
  rw [e2, ← e3, e1]

/-- A slice of the product with the block Hadamard matrix is that slice of the rotated rows. -/
theorem piece_rot (x0 : Vec Ideal S256x4096 .bf16) (c : Fin 16) (x : (rotPiece x0 hadMat c).1.shape.Idx) :
    (rotPiece x0 hadMat c).2 x = rotated x0 ((rotPiece x0 hadMat c).1.emb x) := by
  obtain ⟨r, l, rfl⟩ : ∃ (r : Fin 256) (l : Fin 256), x = (ix2 r l : S256x256.Idx) := ⟨x 0, x 1, eq_ix2 x⟩
  refine (col_apply x0 c r l).trans ?_
  change _ = rotated x0 ((colRect c).toLoadRect.idx (ix2 r l))
  pointwise

/-- The 16 pieces together are the rotated block. -/
theorem canon_rot (x0 : Vec Ideal S256x4096 .bf16) :
    View.canon ((List.finRange 16).reverse.map (rotPiece x0 hadMat)) = rotated x0 := by
  funext y
  refine View.canon_apply_of_pieces (rotated x0) _ ?_ y ?_
  · intro p hp x
    obtain ⟨c, -, rfl⟩ := List.mem_map.1 hp
    exact piece_rot x0 c x
  · obtain ⟨r, q, rfl⟩ : ∃ (r : Fin 256) (q : Fin 4096), y = (ix2 r q : S256x4096.Idx) := ⟨y 0, y 1, eq_ix2 y⟩
    refine ⟨_, List.mem_map.2 ⟨⟨q.val / 256, by omega⟩, List.mem_reverse.2 (List.mem_finRange _), rfl⟩, ?_⟩
    have he : (ix2 r q : S256x4096.Idx) = (colRect ⟨q.val / 256, by omega⟩).toLoadRect.idx (ix2 r (⟨q.val % 256, by omega⟩ : Fin 256)) := by
      pointwise
      congr 1
      exact Fin.ext (by show q.val = 256 * (q.val / 256) + q.val % 256; omega)
    rw [he]
    exact LoadRect.idx_mem _ _

end Cert.QuantiseIdeal.Qx
-- ==== Proof.Round.lean ====
module

public import proofs.«01_k».proof.Proof.Trip
public import proofs.«01_k».proof.Proof.Spec
public import proofs.«01_k».proof.Proof.Exponent

/-! The kernel's rounding of a scaled value, which works on the clipped magnitude, takes the unit of the last place from its exponent
field and puts the sign back, is the rounding of the clipped value; and its clip bit. -/

@[expose] public section
set_option maxRecDepth 65536
set_option maxHeartbeats 400000
noncomputable section
namespace Cert.QuantiseIdeal.Qx
open Cert.QuantiseIdeal Cert.QuantiseIdeal.Gen Idealize.ShloMosaic Idealize.ShloMosaic.TcCoe Idealize.SL.Sem Idealize.ShloMosaic.Tactic

/-- Clipping, then taking the magnitude, is taking the magnitude, then clipping. -/
theorem clip_abs (u : EReal) : max (min 6 (max (-6) u)) (-(min 6 (max (-6) u))) = min (max u (-u)) 6 := by
  have h6 : (-6 : EReal) ≤ 6 := by
    rw [show (6 : EReal) = ((6 : ℝ) : EReal) from rfl, ← EReal.coe_neg]; exact EReal.coe_le_coe_iff.2 (by norm_num)
  have h0 : (-6 : EReal) ≤ 0 := by
    rw [show (6 : EReal) = ((6 : ℝ) : EReal) from rfl, ← EReal.coe_neg]; exact EReal.coe_le_coe_iff.2 (by norm_num)
  have h06 : (0 : EReal) ≤ 6 := by
    rw [show (6 : EReal) = ((6 : ℝ) : EReal) from rfl]; exact EReal.coe_le_coe_iff.2 (by norm_num)
  rcases le_total u (-6) with h | h
  · have hn : 6 ≤ -u := EReal.le_neg_of_le_neg h
    rw [max_eq_left h, min_eq_right h6, neg_neg, max_eq_right h6, min_eq_right (le_trans hn (le_max_right _ _))]
  · rw [max_eq_right h]
    rcases le_total 6 u with h' | h'
    · rw [min_eq_left h', max_eq_left h6, min_eq_right (le_trans h' (le_max_left _ _))]
    · rw [min_eq_right h', min_eq_left]
      exact max_le h' (EReal.neg_le_of_neg_le h)

/-- Clipping keeps the sign. -/
theorem clip_neg (u : EReal) : min 6 (max (-6) u) < 0 ↔ u < 0 := by
  have h0 : (-6 : EReal) < 0 := by
    rw [show (6 : EReal) = ((6 : ℝ) : EReal) from rfl, ← EReal.coe_neg]; exact EReal.coe_lt_coe_iff.2 (by norm_num)
  have h06 : ¬ ((6 : EReal) < 0) := by
    rw [show (6 : EReal) = ((6 : ℝ) : EReal) from rfl]; exact fun h => absurd (EReal.coe_lt_coe_iff.1 h) (by norm_num)
  rw [min_lt_iff, max_lt_iff]
  constructor
  · rintro (h | h)
    · exact absurd h h06
    · exact h.2
  · exact fun h => Or.inr ⟨h0, h⟩

/-- The float with exponent field 128 is two, the one with 129 is four, the one with 130 is eight. -/
theorem fieldFloat_small : fieldFloat 128 = 2 ∧ fieldFloat 129 = 4 ∧ fieldFloat 130 = ((8 : ℝ) : EReal) := by
  refine ⟨?_, ?_, ?_⟩
  · rw [fieldFloat_eq _ (by decide), if_neg (by decide), if_neg (by decide), show (2 : EReal) = ((2 : ℝ) : EReal) from rfl]
    congr 1; norm_num
  · rw [fieldFloat_eq _ (by decide), if_neg (by decide), if_neg (by decide), show (4 : EReal) = ((4 : ℝ) : EReal) from rfl]
    congr 1; norm_num
  · rw [fieldFloat_eq _ (by decide), if_neg (by decide), if_neg (by decide)]
    congr 1; norm_num

/-- A number below the float with exponent field `n` has a smaller field. -/
theorem search_lt (a : EReal) (n : ℕ) (hn : 0 < n) (h : ¬ fieldFloat n ≤ a) : search a < n := by
  obtain ⟨h1, h2, -⟩ := search_found a
  by_contra hc
  rcases h2 with h2 | h2
  · omega
  · exact h ((fieldFloat_mono _ _ (by omega) (by omega)).trans h2)

/-- A number not below the float with exponent field `n` has no smaller field. -/
theorem search_ge (a : EReal) (n : ℕ) (hn : n < 256) (h : fieldFloat n ≤ a) : n ≤ search a := by
  obtain ⟨h1, -, h3⟩ := search_found a
  by_contra hc
  rcases h3 with h3 | h3
  · omega
  · exact h3 ((fieldFloat_mono _ _ (by omega) hn).trans h)

/-- The word of the unit, by the exponent field. -/
theorem unit_words : ∀ n : Fin 130, IntOp.subi (IntOp.maxsi (IntOp.shli .vector (BitVec.ofNat 32 n.val) 23#32) 1065353216#32) 8388608#32
    = if n.val < 128 then 0x3F000000#32 else if n.val < 129 then 0x3F800000#32 else 0x40000000#32 := by decide +kernel

/-- The unit as a number, by the exponent field. -/
theorem unit_number (n : ℕ) (hn : n < 130) :
    Ideal.ofBits .f32 (IntOp.subi (IntOp.maxsi (IntOp.shli .vector (BitVec.ofNat 32 n) 23#32) 1065353216#32) 8388608#32)
      = if n < 128 then ((1 / 2 : ℝ) : EReal) else if n < 129 then 1 else 2 := by
  refine (congrArg (Ideal.ofBits .f32) (unit_words ⟨n, hn⟩)).trans ?_
  by_cases h1 : n < 128
  · rw [if_pos h1, if_pos h1]; exact Spec.word_half
  · rw [if_neg h1, if_neg h1]
    by_cases h2 : n < 129
    · rw [if_pos h2, if_pos h2]; exact Spec.word_one
    · rw [if_neg h2, if_neg h2]; exact Spec.word_two

/-- A magnitude up to six has an exponent field below 130. -/
theorem search_six (a : EReal) (h : a ≤ 6) : search a < 130 := by
  refine search_lt a 130 (by omega) ?_
  rw [fieldFloat_small.2.2]
  refine not_le.2 (lt_of_le_of_lt h ?_)
  rw [show (6 : EReal) = ((6 : ℝ) : EReal) from rfl]
  exact EReal.coe_lt_coe_iff.2 (by norm_num)

/-- The unit of the last place of a magnitude up to six is the distance of the representable numbers there. -/
theorem unit_step (a : EReal) (h : a ≤ 6) :
    Ideal.ofBits .f32 (IntOp.subi (IntOp.maxsi (IntOp.shli .vector (BitVec.ofNat 32 (search a)) 23#32) 1065353216#32) 8388608#32) = Spec.step a := by
  obtain ⟨h2, h4, -⟩ := fieldFloat_small
  have hs := search_six a h
  have l2 : a < 2 → search a < 128 := fun c => search_lt a 128 (by omega) (by rw [h2]; exact not_le.2 c)
  have g2 : ¬ a < 2 → 128 ≤ search a := fun c => search_ge a 128 (by omega) (by rw [h2]; exact not_lt.1 c)
  have l4 : a < 4 → search a < 129 := fun c => search_lt a 129 (by omega) (by rw [h4]; exact not_le.2 c)
  have g4 : ¬ a < 4 → 129 ≤ search a := fun c => search_ge a 129 (by omega) (by rw [h4]; exact not_lt.1 c)
  generalize search a = n at hs l2 g2 l4 g4 ⊢
  refine (unit_number n hs).trans ?_
  unfold Spec.step
  by_cases c2 : a < 2
  · rw [if_pos c2, if_pos (l2 c2)]
  · rw [if_neg c2, if_neg (not_lt.2 (g2 c2))]
    by_cases c4 : a < 4
    · rw [if_pos c4, if_pos (l4 c4)]
    · rw [if_neg c4, if_neg (not_lt.2 (g4 c4))]

/-- The distance of the representable numbers is never zero. -/
theorem step_ne (a : EReal) : Spec.step a ≠ 0 := by
  unfold Spec.step
  split_ifs
  · rw [← EReal.coe_zero]; exact fun h => absurd (EReal.coe_eq_coe_iff.1 h) (by norm_num)
  · exact one_ne_zero
  · rw [show (2 : EReal) = ((2 : ℝ) : EReal) from rfl, ← EReal.coe_zero]; exact fun h => absurd (EReal.coe_eq_coe_iff.1 h) (by norm_num)

/-- Dividing by the distance is multiplying with one over it. -/
theorem div_step (b a : EReal) : Ideal.div b (Spec.step a) = b * Ideal.div 1 (Spec.step a) := by
  unfold Ideal.div
  rw [if_neg (step_ne a), if_neg (step_ne a), one_mul]

/-- A select on the order of two values. -/
theorem select_lt {α : Type} (a b : EReal) (x y : α) : Scalar.select (Ideal.cmp .olt a b) x y = if a < b then x else y := by
  show Scalar.select (BitVec.ofBool (decide (a < b))) x y = _
  exact Spec.select_ofBool _ _ _
/-- A selection on `≤` is an `if`. -/
theorem select_le {α : Type} (a b : EReal) (x y : α) : Scalar.select (Ideal.cmp .ole a b) x y = if a ≤ b then x else y := by
  show Scalar.select (BitVec.ofBool (decide (a ≤ b))) x y = _
  exact Spec.select_ofBool _ _ _

/-- The unit of a vector of magnitudes up to six. -/
theorem unitVec_apply (a : FVec Ideal S32x128 .f32) (y : S32x128.Idx) (h : (a y : EReal) ≤ 6) : unitVec a y = Spec.step (a y) := by
  rw [← unit_step (a y) h, ← fields_apply a y]
  rfl

/-- The rounded value. -/
theorem codeVec_apply (u : FVec Ideal S32x128 .f32) (y : S32x128.Idx) : codeVec u y = Spec.code (u y) := by
  have hm : magVec u y = min (max (u y) (-(u y))) 6 := by
    show min (max (u y) (-(u y))) (Ideal.ofBits .f32 0x40C00000#32) = _
    rw [Spec.word_six]
  have hu := unitVec_apply (magVec u) y (by rw [hm]; exact min_le_right _ _)
  show Ideal.liftRound Ideal.roundHalfEven (Ideal.div (magVec u y) (unitVec (magVec u) y)) * unitVec (magVec u) y
      * Scalar.select (Ideal.cmp .olt (u y) (Ideal.ofBits .f32 0x00000000#32)) (Ideal.ofBits .f32 0xBF800000#32) (Ideal.ofBits .f32 0x3F800000#32)
    = Spec.code (u y)
  rw [hu, div_step, hm]
  simp only [select_lt, Spec.word_one, Spec.word_neg_one, Ideal.ofBits_zero_f32]
  generalize u y = v
  unfold Spec.code
  dsimp only
  rw [clip_abs, if_congr (clip_neg v) rfl rfl, mul_comm, mul_assoc]
  congr 1
  rw [mul_comm]

/-- The clip bit. -/
theorem bitVec_apply (u : FVec Ideal S32x128 .f32) (r : Fin 32) (l : Fin 128) :
    bitVec u (ix2 r l) = if max (u (ix2 r l)) (-(u (ix2 r l))) ≤ 6 then (1 : EReal) else 0 := by
  have h : bitVec u (ix2 r l) = Scalar.select (Ideal.cmp .ole (max (u (ix2 r l)) (-(u (ix2 r l)))) (Ideal.ofBits .f32 0x40C00000#32)) (Ideal.ofBits .f32 0x3F800000#32) (Ideal.ofBits .f32 0x00000000#32) := by
    pointwise [bitVec]
    rfl
  rw [h, select_le, Spec.word_six, Spec.word_one, Ideal.ofBits_zero_f32]

end Cert.QuantiseIdeal.Qx
-- ==== Proof.Blocks.lean ====
module

public import proofs.«01_k».proof.Proof.Butterfly
public import proofs.«01_k».proof.Proof.Exponent
public import proofs.«01_k».proof.Proof.Rotate
public import proofs.«01_k».proof.Proof.Round

/-! What a trip stores, on a rotated block: the specified codes, scale codes, dequantised values and clip bits of its 32 rows. -/

@[expose] public section
set_option maxRecDepth 65536
set_option maxHeartbeats 4000000
noncomputable section
namespace Cert.QuantiseIdeal.Qx
open Cert.QuantiseIdeal Cert.QuantiseIdeal.Gen Idealize.ShloMosaic Idealize.ShloMosaic.TcCoe Idealize.SL.Sem Idealize.ShloMosaic.Tactic

/-- Row `r` of trip `k`. -/
abbrev tripRow (k : Fin k0_t1_loop.trips) (r : Fin 32) : Fin 256 :=
  ⟨32 * k.val + r.val, by have : k.val < 8 := Nat.lt_of_lt_of_eq k.isLt trips_eq; omega⟩

/-- The block of 32 columns whose exponent stands in lane `l`. -/
abbrev blockOf (l : Fin 128) : Fin 128 := ⟨4 * (l.val % 32) + l.val / 32, by omega⟩

/-- A tile as loaded from a block. -/
theorem ld_tile (X : Vec Ideal S256x4096 .f32) (k : Fin k0_t1_loop.trips) (v : Fin 32) (r : Fin 32) (l : Fin 128) :
    View.ld X (tileRect k v) (ix2 r l) = X (ix2 (tripRow k r) ⟨128 * v.val + l.val, by omega⟩) := by
  have hr := row_val k
  pointwise
  simp only [hr]

/-- The sums of squares of a trip, on a rotated block. -/
theorem sums_apply (x0 : Vec Ideal S256x4096 .bf16) (k : Fin k0_t1_loop.trips) (r : Fin 32) (l : Fin 128) :
    tripSums lanes (rotated x0) k (ix2 r l)
      = (∑ i : Fin 32, Spec.rot (rowOf x0 (tripRow k r)) (blockOf l) i * Spec.rot (rowOf x0 (tripRow k r)) (blockOf l) i : EReal) := by
  unfold tripSums
  rw [sums32_apply]
  refine Finset.sum_congr rfl fun j _ => ?_
  have hl := l.isLt
  unfold squares
  rw [dif_pos (by omega : l.val % 32 < 32)]
  show (View.ld (rotated x0) (tileRect k ⟨l.val % 32, by omega⟩) (ix2 r ⟨32 * (l.val / 32) + j.val, by omega⟩) : EReal)
    * View.ld (rotated x0) (tileRect k ⟨l.val % 32, by omega⟩) (ix2 r ⟨32 * (l.val / 32) + j.val, by omega⟩) = _
  rw [ld_tile]
  have e1 : (⟨(128 * (l.val % 32) + (32 * (l.val / 32) + j.val)) / 32, by omega⟩ : Fin 128) = blockOf l := Fin.ext (by
    show _ / 32 = 4 * (l.val % 32) + l.val / 32; omega)
  have e2 : (⟨(128 * (l.val % 32) + (32 * (l.val / 32) + j.val)) % 32, by omega⟩ : Fin 32) = j := Fin.ext (by
    show _ % 32 = j.val; omega)
  show Spec.rot (rowOf x0 (tripRow k r)) ⟨(128 * (l.val % 32) + (32 * (l.val / 32) + j.val)) / 32, _⟩ ⟨(128 * (l.val % 32) + (32 * (l.val / 32) + j.val)) % 32, _⟩
    * Spec.rot (rowOf x0 (tripRow k r)) ⟨(128 * (l.val % 32) + (32 * (l.val / 32) + j.val)) / 32, _⟩ ⟨(128 * (l.val % 32) + (32 * (l.val / 32) + j.val)) % 32, _⟩ = _
  rw [e1, e2]

/-- Times a thirty-second is over thirty-two. -/
theorem over_thirtytwo (s : EReal) : s * Ideal.ofBits .f32 0x3D000000#32 = Ideal.div s (Ideal.ofBits .f32 0x42000000#32) := by
  rw [Spec.word_thirtysecond, Spec.word_thirtytwo]
  unfold Ideal.div
  rw [if_neg (by rw [← EReal.coe_zero]; exact fun h => absurd (EReal.coe_eq_coe_iff.1 h) (by norm_num)), ← EReal.coe_inv]
  congr 2
  norm_num

/-- Lane `l` of the kernel's root mean square holds that of the block `blockOf` gives to the lane. -/
theorem rms_apply (x0 : Vec Ideal S256x4096 .bf16) (k : Fin k0_t1_loop.trips) (r : Fin 32) (l : Fin 128) :
    rmsVec (tripSums lanes (rotated x0) k) (ix2 r l) = Spec.rms (rowOf x0 (tripRow k r)) (blockOf l) := by
  show Ideal.sqrt ((tripSums lanes (rotated x0) k (ix2 r l) : EReal) * Ideal.ofBits .f32 0x3D000000#32) = _
  rw [sums_apply, over_thirtytwo]
  rfl

/-- The same for the number whose exponent is taken. -/
theorem arg_apply (x0 : Vec Ideal S256x4096 .bf16) (k : Fin k0_t1_loop.trips) (r : Fin 32) (l : Fin 128) :
    argVec (tripSums lanes (rotated x0) k) (ix2 r l) = Spec.arg (rowOf x0 (tripRow k r)) (blockOf l) := by
  show (Ideal.ofBits .f32 0x403AE148#32 * rmsVec (tripSums lanes (rotated x0) k) (ix2 r l) * Ideal.ofBits .f32 0x3E2AAAAB#32 : EReal) = _
  rw [rms_apply]
  rfl

/-- A select on equality of values. -/
theorem select_oeq {α : Type} (a b : EReal) (x y : α) : Scalar.select (Ideal.cmp .oeq a b) x y = if a = b then x else y := by
  show Scalar.select (BitVec.ofBool (decide (a = b))) x y = _
  exact Spec.select_ofBool _ _ _

/-- The exponents of a trip. -/
abbrev tripExp (x0 : Vec Ideal S256x4096 .bf16) (k : Fin k0_t1_loop.trips) : IVec S32x128 32 := expVec (tripSums lanes (rotated x0) k)

/-- The same for the exponent itself. -/
theorem exp_apply (x0 : Vec Ideal S256x4096 .bf16) (k : Fin k0_t1_loop.trips) (r : Fin 32) (l : Fin 128) :
    tripExp x0 k (ix2 r l) = Spec.expo (rowOf x0 (tripRow k r)) (blockOf l) := by
  show Scalar.select (Ideal.cmp .oeq (rmsVec (tripSums lanes (rotated x0) k) (ix2 r l)) (Ideal.ofBits .f32 0x00000000#32)) 0#32
    (Scalar.select (IntOp.cmpi .eq (fields (argVec (tripSums lanes (rotated x0) k)) (ix2 r l)) 255#32) 4294967295#32
      (fields (argVec (tripSums lanes (rotated x0) k)) (ix2 r l) - 127#32)) = _
  rw [select_oeq, Spec.select_eq, fields_apply, rms_apply, arg_apply, Ideal.ofBits_zero_f32, exponent_eq]
  rfl

/-- A gather along the lanes, at an index. -/
theorem gath_apply {α : Type} (w : IVec S32x128 32) (p : S32x128.Idx → α) (r : Fin 32) (l m : Fin 128)
    (h : (wrapWord (w (ix2 r l))).toNat % 128 = m.val) : gath w p (ix2 r l) = p (ix2 r m) := by
  have hx : (⟨(wrapWord (w (ix2 r l))).toNat % 128, Nat.mod_lt _ (by decide)⟩ : Fin 128) = m := Fin.ext h
  rw [← hx]
  pointwise [gath]

/-- The index of the lane that holds the exponent of lane `l` of tile `v`. -/
theorem tile_words : ∀ (v : Fin 32) (l : Fin 128), (wrapWord (BitVec.ofNat 32 ((l.val / 32) * 32) + BitVec.ofNat 32 v.val)).toNat % 128 = (l.val / 32) * 32 + v.val := by
  decide +kernel
/-- The index of the lane that holds the exponent of block `l`. -/
theorem block_words : ∀ l : Fin 128, (wrapWord (BitVec.ofNat 32 ((l.val % 4) * 32 + l.val / 4))).toNat % 128 = (l.val % 4) * 32 + l.val / 4 := by
  decide +kernel

/-- The gather of tile `v` reads at each lane the lane of its block. -/
theorem gath_tile {α : Type} (v : Fin 32) (p : S32x128.Idx → α) (r : Fin 32) (l : Fin 128) :
    gath (laneVec v.val laneBase) p (ix2 r l) = p (ix2 r ⟨(l.val / 32) * 32 + v.val, by omega⟩) := by
  refine gath_apply _ p r l _ ?_
  have h : laneVec v.val laneBase (ix2 r l) = laneBase (ix2 r l) + BitVec.ofNat 32 v.val := rfl
  rw [h, laneBase_eq]
  exact tile_words v l

/-- The block of position `l` of tile `v`. -/
abbrev tileBlock (v : Fin 32) (l : Fin 128) : Fin 128 := ⟨(128 * v.val + l.val) / 32, by omega⟩

/-- The lane gathered for lane `l` of tile `v` holds the block that lane lies in. -/
theorem blockOf_tile (v : Fin 32) (l : Fin 128) : blockOf ⟨(l.val / 32) * 32 + v.val, by omega⟩ = tileBlock v l := Fin.ext (by
  show 4 * (((l.val / 32) * 32 + v.val) % 32) + ((l.val / 32) * 32 + v.val) / 32 = (128 * v.val + l.val) / 32
  omega)

/-- The factor a lane of a tile is multiplied with: the inverse power of its own block. -/
theorem inv_tile (x0 : Vec Ideal S256x4096 .bf16) (k : Fin k0_t1_loop.trips) (v : Fin 32) (r : Fin 32) (l : Fin 128) :
    gath (laneVec v.val laneBase) (powVec (F := Ideal) (negVec (tripExp x0 k))) (ix2 r l)
      = Spec.power (0#32 - Spec.expo (rowOf x0 (tripRow k r)) (tileBlock v l)) := by
  rw [gath_tile]
  show Ideal.ofBits .f32 (IntOp.shli .vector (0#32 - tripExp x0 k (ix2 r ⟨(l.val / 32) * 32 + v.val, by omega⟩) + 127#32) 23#32) = _
  rw [exp_apply, blockOf_tile, power_inv]

/-- The power of the block a lane of a tile lies in. -/
theorem fwd_tile (x0 : Vec Ideal S256x4096 .bf16) (k : Fin k0_t1_loop.trips) (v : Fin 32) (r : Fin 32) (l : Fin 128) :
    gath (laneVec v.val laneBase) (powVec (F := Ideal) (tripExp x0 k)) (ix2 r l)
      = Spec.power (Spec.expo (rowOf x0 (tripRow k r)) (tileBlock v l)) := by
  rw [gath_tile]
  show Ideal.ofBits .f32 (IntOp.shli .vector (tripExp x0 k (ix2 r ⟨(l.val / 32) * 32 + v.val, by omega⟩) + 127#32) 23#32) = _
  rw [exp_apply, blockOf_tile, power_fwd]

/-- The scaled values of tile `v`. -/
theorem val_tile (x0 : Vec Ideal S256x4096 .bf16) (k : Fin k0_t1_loop.trips) (v : Fin 32) (r : Fin 32) (l : Fin 128) :
    tileVal (F := Ideal) laneBase (rotated x0) k (powVec (negVec (tripExp x0 k))) v (ix2 r l)
      = Spec.val (rowOf x0 (tripRow k r)) (tileBlock v l) ⟨(128 * v.val + l.val) % 32, Nat.mod_lt _ (by decide)⟩ := by
  show (View.ld (rotated x0) (tileRect k v) (ix2 r l) : EReal) * gath (laneVec v.val laneBase) (powVec (F := Ideal) (negVec (tripExp x0 k))) (ix2 r l) = _
  rw [ld_tile, inv_tile]
  rfl

/-! The four blocks the loop leaves, over 256 rows. -/

/-- The codes of a block of 256 rows. -/
def codesBlk (x0 : Vec Ideal S256x4096 .bf16) : Vec Ideal S256x4096 .fp8e4m3 := fun y => Spec.codes (rowOf x0 (y 0)) (y 1)
/-- The dequantised values of a block of 256 rows. -/
def deqBlk (x0 : Vec Ideal S256x4096 .bf16) : Vec Ideal S256x4096 .bf16 := fun y => Spec.deq (rowOf x0 (y 0)) (y 1)
/-- The scale codes of a block of 256 rows. -/
def scalesBlk (x0 : Vec Ideal S256x4096 .bf16) : Vec Ideal S256x128 .i8 := fun y => Spec.scales (rowOf x0 (y 0)) (y 1)
/-- Whether value `q` of a row is within `[-6, 6]`. -/
def inside (x : Fin 4096 → EReal) (q : Fin 4096) : BitVec 32 := Spec.bit (Spec.val x ⟨q.val / 32, by omega⟩ ⟨q.val % 32, by omega⟩)
/-- The mask bits of a block of 256 rows, one number per element. -/
def bitsBlk (x0 : Vec Ideal S256x4096 .bf16) : Vec Ideal S256x4096 .fp8e4m3 := fun y =>
  if inside (rowOf x0 (y 0)) (y 1) = 1#32 then (1 : EReal) else 0

/-- Where an entry of a tile stands in the block. -/
theorem tile_emb (k : Fin k0_t1_loop.trips) (v : Fin 32) (r : Fin 32) (l : Fin 128) :
    (tileRect k v).toLoadRect.idx (ix2 r l) = ix2 (tripRow k r) ⟨128 * v.val + l.val, by omega⟩ := by
  have hr := row_val k
  pointwise
  simp only [hr]

/-- What a trip writes to the codes at tile `v` is the slice of `codesBlk` there. -/
theorem code_block (x0 : Vec Ideal S256x4096 .bf16) (k : Fin k0_t1_loop.trips) (v : Fin 32)
    (x : (codePiece (F := Ideal) laneBase (rotated x0) k (powVec (negVec (tripExp x0 k))) v).1.shape.Idx) :
    (codePiece (F := Ideal) laneBase (rotated x0) k (powVec (negVec (tripExp x0 k))) v).2 x
      = codesBlk x0 ((codePiece (F := Ideal) laneBase (rotated x0) k (powVec (negVec (tripExp x0 k))) v).1.emb x) := by
  obtain ⟨r, l, rfl⟩ : ∃ (r : Fin 32) (l : Fin 128), x = (ix2 r l : S32x128.Idx) := ⟨x 0, x 1, eq_ix2 x⟩
  change codeVec (tileVal (F := Ideal) laneBase (rotated x0) k (powVec (negVec (tripExp x0 k))) v) (ix2 r l) = codesBlk x0 ((tileRect k v).toLoadRect.idx (ix2 r l))
  rw [codeVec_apply, val_tile, tile_emb]
  rfl

/-- What a trip writes to the dequantised values at tile `v` is the slice of `deqBlk` there. -/
theorem back_block (x0 : Vec Ideal S256x4096 .bf16) (k : Fin k0_t1_loop.trips) (v : Fin 32)
    (x : (backPiece (F := Ideal) laneBase (rotated x0) k (powVec (negVec (tripExp x0 k))) (powVec (tripExp x0 k)) v).1.shape.Idx) :
    (backPiece (F := Ideal) laneBase (rotated x0) k (powVec (negVec (tripExp x0 k))) (powVec (tripExp x0 k)) v).2 x
      = deqBlk x0 ((backPiece (F := Ideal) laneBase (rotated x0) k (powVec (negVec (tripExp x0 k))) (powVec (tripExp x0 k)) v).1.emb x) := by
  obtain ⟨r, l, rfl⟩ : ∃ (r : Fin 32) (l : Fin 128), x = (ix2 r l : S32x128.Idx) := ⟨x 0, x 1, eq_ix2 x⟩
  change (codeVec (tileVal (F := Ideal) laneBase (rotated x0) k (powVec (negVec (tripExp x0 k))) v) (ix2 r l) : EReal)
    * gath (laneVec v.val laneBase) (powVec (F := Ideal) (tripExp x0 k)) (ix2 r l) = deqBlk x0 ((tileRect k v).toLoadRect.idx (ix2 r l))
  rw [codeVec_apply, val_tile, fwd_tile, tile_emb]
  rfl

/-- What a trip writes to the mask bits at tile `v` is the slice of `bitsBlk` there. -/
theorem bit_block (x0 : Vec Ideal S256x4096 .bf16) (k : Fin k0_t1_loop.trips) (v : Fin 32)
    (x : (bitPiece (F := Ideal) laneBase (rotated x0) k (powVec (negVec (tripExp x0 k))) v).1.shape.Idx) :
    (bitPiece (F := Ideal) laneBase (rotated x0) k (powVec (negVec (tripExp x0 k))) v).2 x
      = bitsBlk x0 ((bitPiece (F := Ideal) laneBase (rotated x0) k (powVec (negVec (tripExp x0 k))) v).1.emb x) := by
  obtain ⟨r, l, rfl⟩ : ∃ (r : Fin 32) (l : Fin 128), x = (ix2 r l : S32x128.Idx) := ⟨x 0, x 1, eq_ix2 x⟩
  change bitVec (tileVal (F := Ideal) laneBase (rotated x0) k (powVec (negVec (tripExp x0 k))) v) (ix2 r l) = bitsBlk x0 ((tileRect k v).toLoadRect.idx (ix2 r l))
  rw [bitVec_apply, val_tile, tile_emb]
  show _ = if Spec.bit (Spec.val (rowOf x0 (tripRow k r)) (tileBlock v l) ⟨(128 * v.val + l.val) % 32, Nat.mod_lt _ (by decide)⟩) = 1#32 then (1 : EReal) else 0
  generalize Spec.val (rowOf x0 (tripRow k r)) (tileBlock v l) ⟨(128 * v.val + l.val) % 32, Nat.mod_lt _ (by decide)⟩ = u
  unfold Spec.bit
  by_cases h : max u (-u) ≤ 6
  · rw [if_pos h, if_pos h, if_pos rfl]
  · rw [if_neg h, if_neg h, if_neg (by decide)]

/-- What a trip writes to the scale codes is the slice of `scalesBlk` there. -/
theorem scale_block (x0 : Vec Ideal S256x4096 .bf16) (k : Fin k0_t1_loop.trips)
    (x : (scalePiece (F := Ideal) toBlocks (tripExp x0 k) k).1.shape.Idx) :
    (scalePiece (F := Ideal) toBlocks (tripExp x0 k) k).2 x = scalesBlk x0 ((scalePiece (F := Ideal) toBlocks (tripExp x0 k) k).1.emb x) := by
  obtain ⟨r, l, rfl⟩ : ∃ (r : Fin 32) (l : Fin 128), x = (ix2 r l : S32x128.Idx) := ⟨x 0, x 1, eq_ix2 x⟩
  have he : (Rect.unit (s := S256x128) ![row k, 0] ![32, 128] (scale_inb k)).toLoadRect.idx (ix2 r l) = ix2 (tripRow k r) l := by
    have hr := row_val k
    pointwise
    simp only [hr]
  change (gath toBlocks (tripExp x0 k) (ix2 r l) + 127#32).setWidth 8
    = scalesBlk x0 ((Rect.unit (s := S256x128) ![row k, 0] ![32, 128] (scale_inb k)).toLoadRect.idx (ix2 r l))
  rw [he, gath_apply toBlocks _ r l ⟨(l.val % 4) * 32 + l.val / 4, by omega⟩ (by rw [toBlocks_eq]; exact block_words l), exp_apply]
  have hb : blockOf ⟨(l.val % 4) * 32 + l.val / 4, by omega⟩ = l := Fin.ext (by
    show 4 * (((l.val % 4) * 32 + l.val / 4) % 32) + ((l.val % 4) * 32 + l.val / 4) / 32 = l.val
    omega)
  rw [hb]
  rfl

end Cert.QuantiseIdeal.Qx
-- ==== Proof.Loop.lean ====
module

public import proofs.«01_k».proof.Proof.Blocks

/-! What the eight trips of the loop leave in the three output blocks and in the scratch of clip bits. -/

@[expose] public section
set_option maxRecDepth 65536
set_option maxHeartbeats 4000000
noncomputable section
namespace Cert.QuantiseIdeal.Qx
open Cert.QuantiseIdeal Cert.QuantiseIdeal.Gen Idealize.ShloMosaic Idealize.ShloMosaic.TcCoe Idealize.SL.Sem Idealize.ShloMosaic.Tactic

/-- A list that grows by one list per trip holds exactly what the trips put in. -/
theorem grows {α : Type} (P : ℕ → List α) (Q : Fin k0_t1_loop.trips → List α) (h0 : P 0 = []) (hs : ∀ k, P (k.val + 1) = Q k ++ P k.val)
    (n : ℕ) (hn : n ≤ 8) : (∀ p ∈ P n, ∃ k, p ∈ Q k) ∧ ∀ k, k.val < n → ∀ p ∈ Q k, p ∈ P n := by
  induction n with
  | zero => exact ⟨fun p hp => absurd (h0 ▸ hp) List.not_mem_nil, fun k hk => absurd hk (Nat.not_lt_zero _)⟩
  | succ n ih =>
    obtain ⟨ih1, ih2⟩ := ih (by omega)
    have hn' : n < k0_t1_loop.trips := by rw [trips_eq]; omega
    rw [hs ⟨n, hn'⟩]
    refine ⟨fun p hp => ?_, fun k hk p hp => ?_⟩
    · rcases List.mem_append.mp hp with hp | hp
      · exact ⟨_, hp⟩
      · exact ih1 p hp
    · rcases Nat.lt_succ_iff_lt_or_eq.mp hk with h | h
      · exact List.mem_append_right _ (ih2 k h p hp)
      · obtain rfl : k = ⟨n, hn'⟩ := Fin.ext h
        exact List.mem_append_left _ hp

/-- The tiles of the eight trips cover the block. -/
theorem tile_cover (y : S256x4096.Idx) : ∃ (k : Fin k0_t1_loop.trips) (v : Fin 32), y ∈ (tileRect k v).set := by
  obtain ⟨r, q, rfl⟩ : ∃ (r : Fin 256) (q : Fin 4096), y = (ix2 r q : S256x4096.Idx) := ⟨y 0, y 1, eq_ix2 y⟩
  have hk : r.val / 32 < k0_t1_loop.trips := by rw [trips_eq]; omega
  refine ⟨⟨r.val / 32, hk⟩, ⟨q.val / 128, by omega⟩, ?_⟩
  have he : (ix2 r q : S256x4096.Idx) = (tileRect ⟨r.val / 32, hk⟩ ⟨q.val / 128, by omega⟩).toLoadRect.idx
      (ix2 (⟨r.val % 32, by omega⟩ : Fin 32) (⟨q.val % 128, by omega⟩ : Fin 128)) := by
    rw [tile_emb]
    congr 1
    · exact Fin.ext (by show r.val = 32 * (r.val / 32) + r.val % 32; omega)
    · exact Fin.ext (by show q.val = 128 * (q.val / 128) + q.val % 128; omega)
  rw [he]
  exact LoadRect.idx_mem _ _

/-- The rows of the eight trips cover the block of scale codes. -/
theorem scale_cover (y : S256x128.Idx) : ∃ k : Fin k0_t1_loop.trips, y ∈ (Rect.unit (s := S256x128) ![row k, 0] ![32, 128] (scale_inb k)).set := by
  obtain ⟨r, q, rfl⟩ : ∃ (r : Fin 256) (q : Fin 128), y = (ix2 r q : S256x128.Idx) := ⟨y 0, y 1, eq_ix2 y⟩
  have hk : r.val / 32 < k0_t1_loop.trips := by rw [trips_eq]; omega
  have hr : row ⟨r.val / 32, hk⟩ = 32 * (r.val / 32) := row_val _
  refine ⟨⟨r.val / 32, hk⟩, ?_⟩
  have he : (ix2 r q : S256x128.Idx) = (Rect.unit (s := S256x128) ![row ⟨r.val / 32, hk⟩, 0] ![32, 128] (scale_inb ⟨r.val / 32, hk⟩)).toLoadRect.idx
      (ix2 (⟨r.val % 32, by omega⟩ : Fin 32) q) := by
    pointwise
    congr 1
    exact Fin.ext (by show r.val = _ + r.val % 32; omega)
  rw [he]
  exact LoadRect.idx_mem _ _

section loop
variable (c : Dev nD) (i : grid0.Coords) (arg1 : Memref sig .tc .vmem S256x4096 .bf16) (harg1 : arg1.IsWhole) (arg2 : Memref sig .tc .vmem S256x4096 .fp8e4m3) (harg2 : arg2.IsWhole) (arg3 : Memref sig .tc .vmem S256x128 .i8) (harg3 : arg3.IsWhole) (arg4 : Memref sig .tc .vmem S256x512 .i8) (harg4 : arg4.IsWhole) (arg5 : Memref sig .tc .vmem S256x4096 .bf16) (harg5 : arg5.IsWhole) (arg6 : Memref sig .tc .vmem S256x256 .bf16) (harg6 : arg6.IsWhole) (arg7 : Memref sig .tc .vmem S2048x256 .fp8e4m3) (harg7 : arg7.IsWhole) (arg8 : Memref sig .tc .vmem S256x4096 .f32) (harg8 : arg8.IsWhole) (arg9 : Memref sig .tc .vmem S256x4096 .fp8e4m3) (harg9 : arg9.IsWhole) (X : BufTy.Contents (Elt Ideal) arg8.view.ty) (x0 : Vec Ideal S256x4096 .bf16)
include x0

/-- The loop leaves the codes of its block. -/
theorem loop_codes (hX : arg8.view.read (Elt Ideal) X = rotated x0) :
    View.canon (pb_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X 8).1 = codesBlk x0 := by
  obtain ⟨h1, h2⟩ := grows (fun n => (pb_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X n).1)
    (fun k => (List.finRange 32).reverse.map (codePiece (F := Ideal) laneBase (rotated x0) k (powVec (negVec (tripExp x0 k))))) rfl (fun k => by
      have e : (tripL_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X k).1 = (List.finRange 32).reverse.map (codePiece (F := Ideal) laneBase (rotated x0) k (powVec (negVec (tripExp x0 k)))) := by
        rw [trip_codes, inv_eq, hX]
      exact (congrArg (fun q => q.1) (pb_k0_t1_succ (F := Ideal) Variants.none c none i arg1 harg1 arg2 harg2 arg3 harg3 arg4 harg4 arg5 harg5 arg6 harg6 arg7 harg7 arg8 harg8 arg9 harg9 _ _ _ _ _ X k)).trans (congrArg (fun l => l ++ (pb_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X k.val).1) e)) 8 le_rfl
  funext y
  refine View.canon_apply_of_pieces (codesBlk x0) _ (fun p hp x => ?_) y ?_
  · obtain ⟨k, hk⟩ := h1 p hp
    obtain ⟨v, -, rfl⟩ := List.mem_map.mp hk
    exact code_block x0 k v x
  · obtain ⟨k, v, hy⟩ := tile_cover y
    exact ⟨_, h2 k (Nat.lt_of_lt_of_eq k.isLt trips_eq) _ (List.mem_map.mpr ⟨v, List.mem_reverse.mpr (List.mem_finRange v), rfl⟩), hy⟩

/-- The loop leaves the dequantised values of its block. -/
theorem loop_deq (hX : arg8.view.read (Elt Ideal) X = rotated x0) :
    View.canon (pb_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X 8).2.2.1 = deqBlk x0 := by
  obtain ⟨h1, h2⟩ := grows (fun n => (pb_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X n).2.2.1)
    (fun k => (List.finRange 32).reverse.map (backPiece (F := Ideal) laneBase (rotated x0) k (powVec (negVec (tripExp x0 k))) (powVec (tripExp x0 k)))) rfl (fun k => by
      have e : (tripL_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X k).2.2.1 = (List.finRange 32).reverse.map (backPiece (F := Ideal) laneBase (rotated x0) k (powVec (negVec (tripExp x0 k))) (powVec (tripExp x0 k))) := by
        rw [trip_back, inv_eq, fwd_eq, hX]
      exact (congrArg (fun q => q.2.2.1) (pb_k0_t1_succ (F := Ideal) Variants.none c none i arg1 harg1 arg2 harg2 arg3 harg3 arg4 harg4 arg5 harg5 arg6 harg6 arg7 harg7 arg8 harg8 arg9 harg9 _ _ _ _ _ X k)).trans (congrArg (fun l => l ++ (pb_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X k.val).2.2.1) e)) 8 le_rfl
  funext y
  refine View.canon_apply_of_pieces (deqBlk x0) _ (fun p hp x => ?_) y ?_
  · obtain ⟨k, hk⟩ := h1 p hp
    obtain ⟨v, -, rfl⟩ := List.mem_map.mp hk
    exact back_block x0 k v x
  · obtain ⟨k, v, hy⟩ := tile_cover y
    exact ⟨_, h2 k (Nat.lt_of_lt_of_eq k.isLt trips_eq) _ (List.mem_map.mpr ⟨v, List.mem_reverse.mpr (List.mem_finRange v), rfl⟩), hy⟩

/-- The loop leaves the clip bits of its block. -/
theorem loop_bits (hX : arg8.view.read (Elt Ideal) X = rotated x0) :
    View.canon (pb_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X 8).2.2.2 = bitsBlk x0 := by
  obtain ⟨h1, h2⟩ := grows (fun n => (pb_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X n).2.2.2)
    (fun k => (List.finRange 32).reverse.map (bitPiece (F := Ideal) laneBase (rotated x0) k (powVec (negVec (tripExp x0 k))))) rfl (fun k => by
      have e : (tripL_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X k).2.2.2 = (List.finRange 32).reverse.map (bitPiece (F := Ideal) laneBase (rotated x0) k (powVec (negVec (tripExp x0 k)))) := by
        rw [trip_bits, inv_eq, hX]
      exact (congrArg (fun q => q.2.2.2) (pb_k0_t1_succ (F := Ideal) Variants.none c none i arg1 harg1 arg2 harg2 arg3 harg3 arg4 harg4 arg5 harg5 arg6 harg6 arg7 harg7 arg8 harg8 arg9 harg9 _ _ _ _ _ X k)).trans (congrArg (fun l => l ++ (pb_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X k.val).2.2.2) e)) 8 le_rfl
  funext y
  refine View.canon_apply_of_pieces (bitsBlk x0) _ (fun p hp x => ?_) y ?_
  · obtain ⟨k, hk⟩ := h1 p hp
    obtain ⟨v, -, rfl⟩ := List.mem_map.mp hk
    exact bit_block x0 k v x
  · obtain ⟨k, v, hy⟩ := tile_cover y
    exact ⟨_, h2 k (Nat.lt_of_lt_of_eq k.isLt trips_eq) _ (List.mem_map.mpr ⟨v, List.mem_reverse.mpr (List.mem_finRange v), rfl⟩), hy⟩

/-- The loop leaves the scale codes of its block. -/
theorem loop_scales (hX : arg8.view.read (Elt Ideal) X = rotated x0) :
    View.canon (pb_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X 8).2.1 = scalesBlk x0 := by
  obtain ⟨h1, h2⟩ := grows (fun n => (pb_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X n).2.1)
    (fun k => [scalePiece (F := Ideal) toBlocks (tripExp x0 k) k]) rfl (fun k => by
      have e : (tripL_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X k).2.1 = [scalePiece (F := Ideal) toBlocks (tripExp x0 k) k] := by
        rw [trip_scales, exp_eq, hX]
      exact (congrArg (fun q => q.2.1) (pb_k0_t1_succ (F := Ideal) Variants.none c none i arg1 harg1 arg2 harg2 arg3 harg3 arg4 harg4 arg5 harg5 arg6 harg6 arg7 harg7 arg8 harg8 arg9 harg9 _ _ _ _ _ X k)).trans (congrArg (fun l => l ++ (pb_k0_t1 (F := Ideal) Variants.none c none i arg1 harg1 arg2 harg2 arg3 harg3 arg4 harg4 arg5 harg5 arg6 harg6 arg7 harg7 arg8 harg8 arg9 harg9 (iota Kind.tc S32x128 32 [1] iota_S32x128_d1_w32) toBlocks (k0_pay474 (iota Kind.tc S32x128 32 [1] iota_S32x128_d1_w32)) (k0_pay475 (iota Kind.tc S32x128 32 [1] iota_S32x128_d1_w32)) (k0_pay476 (iota Kind.tc S32x128 32 [1] iota_S32x128_d1_w32)) X k.val).2.1) e)) 8 le_rfl
  funext y
  refine View.canon_apply_of_pieces (scalesBlk x0) _ (fun p hp x => ?_) y ?_
  · obtain ⟨k, hk⟩ := h1 p hp
    obtain rfl := List.mem_singleton.mp hk
    exact scale_block x0 k x
  · obtain ⟨k, hy⟩ := scale_cover y
    exact ⟨_, h2 k (Nat.lt_of_lt_of_eq k.isLt trips_eq) _ (List.mem_singleton.mpr rfl), hy⟩

end loop
end Cert.QuantiseIdeal.Qx
-- ==== Proof.Mask.lean ====
module

public import proofs.«01_k».proof.Proof.Loop

/-! The clip mask: the products of 2048 clip bits with the packing matrix, converted to bytes, are the specified bytes. -/

@[expose] public section
set_option maxRecDepth 65536
set_option maxHeartbeats 400000
noncomputable section
namespace Cert.QuantiseIdeal.Qx
open Cert.QuantiseIdeal Cert.QuantiseIdeal.Gen Idealize.ShloMosaic Idealize.ShloMosaic.TcCoe Idealize.SL.Sem Idealize.ShloMosaic.Tactic

/-- A sum over 2048 positions of which only those of one group of 8 count. -/
theorem sum_group (g : Fin 256) (f h : Fin 2048 → EReal) :
    ∑ k : Fin 2048, f k * (if k.val / 8 = g.val then h k else 0) = ∑ t : Fin 8, f ⟨8 * g.val + t.val, by omega⟩ * h ⟨8 * g.val + t.val, by omega⟩ := by
  symm
  refine Finset.sum_of_injOn (fun j : Fin 8 => (⟨8 * g.val + j.val, by omega⟩ : Fin 2048)) ?_ (by intro _ _; exact Finset.mem_coe.2 (Finset.mem_univ _)) ?_ ?_
  · intro a _ b _ hab
    have := congrArg Fin.val hab
    simp only at this
    exact Fin.ext (by omega)
  · intro k _ hk
    rw [if_neg, mul_zero]
    intro hg
    exact hk ⟨⟨k.val % 8, Nat.mod_lt _ (by decide)⟩, Finset.mem_coe.2 (Finset.mem_univ _), Fin.ext (by show 8 * g.val + k.val % 8 = k.val; omega)⟩
  · intro j _
    dsimp only
    rw [if_pos (by omega)]

/-- A sum of natural numbers, in words. -/
theorem fold_words {ι : Type} [DecidableEq ι] (s : Finset ι) (f : ι → ℕ) :
    s.fold IntOp.addi 0#32 (fun t => BitVec.ofNat 32 (f t)) = BitVec.ofNat 32 (∑ t ∈ s, f t) := by
  induction s using Finset.induction_on with
  | empty => rfl
  | insert a s ha ih =>
    rw [Finset.fold_insert ha, ih, Finset.sum_insert ha, BitVec.ofNat_add]
    rfl

/-- A bit moved to its place in a byte. -/
theorem shift_words : ∀ (b : Bool) (t : Fin 8), (if b then 1#32 else 0#32) <<< t.val = BitVec.ofNat 32 (if b then 2 ^ t.val else 0) := by
  decide +kernel

/-- A small natural number converted to a word. -/
theorem fptosi_nat (n : ℕ) (hn : n < 256) : Ideal.fptosi 32 (((n : ℕ) : ℝ) : EReal) = BitVec.ofNat 32 n := by
  rw [Ideal.fptosi, Ideal.toIntClamped_coe, if_pos (Nat.cast_nonneg n), Int.floor_natCast, min_eq_right (by norm_num; omega), max_eq_right (by norm_num)]
  exact BitVec.ofInt_natCast 32 n

/-- The eight weights of a mask byte sum to less than 256. -/
theorem weights_le : ∑ t : Fin 8, 2 ^ t.val < 256 := by decide +kernel

/-- Eight clip bits times their weights, as a byte. -/
theorem byte_eq (b : Fin 8 → Prop) [DecidablePred b] :
    (Ideal.fptosi 32 (∑ t : Fin 8, (if b t then (1 : EReal) else 0) * (((2 ^ t.val : ℕ) : ℝ) : EReal)))
      = Finset.univ.fold IntOp.addi 0#32 fun t : Fin 8 => (if b t then 1#32 else 0#32) <<< t.val := by
  have h1 : ∀ t : Fin 8, (if b t then (1 : EReal) else 0) * (((2 ^ t.val : ℕ) : ℝ) : EReal) = (((if b t then 2 ^ t.val else 0 : ℕ) : ℝ) : EReal) := by
    intro t
    split_ifs
    · rw [one_mul]
    · rw [zero_mul]; simp
  have h2 : ∀ t : Fin 8, (if b t then 1#32 else 0#32) <<< t.val = BitVec.ofNat 32 (if b t then 2 ^ t.val else 0) := by
    intro t
    have := shift_words (decide (b t)) t
    simpa only [decide_eq_true_eq] using this
  simp only [h1, h2]
  rw [fold_words]
  have h3 : (∑ t : Fin 8, (((if b t then 2 ^ t.val else 0 : ℕ) : ℝ) : EReal)) = (((∑ t : Fin 8, if b t then 2 ^ t.val else 0 : ℕ) : ℝ) : EReal) := by
    rw [Nat.cast_sum]
    exact (map_sum (⟨⟨Real.toEReal, EReal.coe_zero⟩, EReal.coe_add⟩ : ℝ →+ EReal) _ _).symm
  rw [h3, fptosi_nat]
  refine lt_of_le_of_lt (Finset.sum_le_sum fun t _ => ?_) weights_le
  split_ifs
  · exact le_rfl
  · exact Nat.zero_le _

/-- One packed byte. -/
theorem pack_apply (B : Vec Ideal S256x2048 .fp8e4m3) (b : Fin 2048 → Prop) [DecidablePred b] (r l : Fin 256)
    (hB : ∀ k, B (ix2 r k) = if b k then (1 : EReal) else 0) :
    k0_pay3 (F := Ideal) B packMat (ix2 r l)
      = (Finset.univ.fold IntOp.addi 0#32 fun t : Fin 8 => (if b ⟨8 * l.val + t.val, by omega⟩ then 1#32 else 0#32) <<< t.val).setWidth 8 := by
  have hp : k0_pay3 (F := Ideal) B packMat (ix2 r l) = (Ideal.fptosi 32 (∑ k : Fin 2048, (B (ix2 r k) : EReal) * packMat (ix2 k l))).setWidth 8 := by
    generalize packMat = K
    pointwise [k0_pay3]
    rfl
  rw [hp]
  congr 1
  simp only [packMat_eq, hB]
  rw [sum_group l (fun k => if b k then (1 : EReal) else 0) (fun k => (((2 ^ (k.val % 8) : ℕ) : ℝ) : EReal)),
    ← byte_eq (fun t : Fin 8 => b ⟨8 * l.val + t.val, by omega⟩)]
  congr 1
  refine Finset.sum_congr rfl fun t _ => ?_
  have e : (8 * l.val + t.val) % 8 = t.val := by omega
  simp only [e]

/-- The mask of a block of 256 rows. -/
def maskBlk (x0 : Vec Ideal S256x4096 .bf16) : Vec Ideal S256x512 .i8 := fun y => Spec.mask (rowOf x0 (y 0)) (y 1)

/-- The bytes from columns `2048 h ..` of the clip bits are half `h` of the mask. -/
theorem half_apply (x0 : Vec Ideal S256x4096 .bf16) (h : Fin 2) (B : Vec Ideal S256x2048 .fp8e4m3)
    (hB : ∀ (r : Fin 256) (k : Fin 2048), B (ix2 r k) = bitsBlk x0 (ix2 r ⟨2048 * h.val + k.val, by omega⟩)) (r l : Fin 256) :
    k0_pay3 (F := Ideal) B packMat (ix2 r l) = maskBlk x0 (ix2 r ⟨256 * h.val + l.val, by omega⟩) := by
  rw [pack_apply B (fun k => inside (rowOf x0 r) ⟨2048 * h.val + k.val, by omega⟩ = 1#32) r l (fun k => by rw [hB]; rfl)]
  show _ = Spec.mask (rowOf x0 r) ⟨256 * h.val + l.val, by omega⟩
  unfold Spec.mask
  congr 2
  funext t
  congr 1
  have e1 : (⟨(2048 * h.val + (8 * l.val + t.val)) / 32, by omega⟩ : Fin 128) = ⟨(256 * h.val + l.val) / 4, by omega⟩ := Fin.ext (by
    show (2048 * h.val + (8 * l.val + t.val)) / 32 = (256 * h.val + l.val) / 4; omega)
  have e2 : (⟨(2048 * h.val + (8 * l.val + t.val)) % 32, by omega⟩ : Fin 32) = ⟨(8 * (256 * h.val + l.val) + t.val) % 32, by omega⟩ := Fin.ext (by
    show (2048 * h.val + (8 * l.val + t.val)) % 32 = (8 * (256 * h.val + l.val) + t.val) % 32; omega)
  show (if Spec.bit (Spec.val (rowOf x0 r) ⟨(2048 * h.val + (8 * l.val + t.val)) / 32, _⟩ ⟨(2048 * h.val + (8 * l.val + t.val)) % 32, _⟩) = 1#32 then 1#32 else 0#32)
    = Spec.bit (Spec.val (rowOf x0 r) ⟨(256 * h.val + l.val) / 4, _⟩ ⟨(8 * (256 * h.val + l.val) + t.val) % 32, _⟩)
  rw [e1, e2]
  generalize Spec.val (rowOf x0 r) _ _ = u
  unfold Spec.bit
  by_cases hu : max u (-u) ≤ 6
  · rw [if_pos hu, if_pos rfl]
  · rw [if_neg hu, if_neg (by decide)]

/-- The two stores of packed bytes, from loads of the clip bits, together are the mask. -/
theorem mask_pieces (x0 : Vec Ideal S256x4096 .bf16) (L : List (View.Piece (Elt Ideal) S256x4096 .fp8e4m3)) (hL : View.canon L = bitsBlk x0)
    (K : Vec Ideal S2048x256 .fp8e4m3) (hK : K = packMat) :
    View.canon ([⟨Rect.unit ![0, 256] ![256, 256] inb_S256x512_S256x256_0_256, k0_pay4 (F := Ideal)
        (scM0_3.view.readCov L (Rect.unit (s := S256x4096) ![0, 2048] ![256, 2048] inb_S256x4096_S256x2048_0_2048).toLoadRect) K⟩,
      ⟨Rect.unit ![0, 0] ![256, 256] inb_S256x512_S256x256_0_0, k0_pay3 (F := Ideal)
        (scM0_3.view.readCov L (Rect.unit (s := S256x4096) ![0, 0] ![256, 2048] inb_S256x4096_S256x2048_0_0).toLoadRect) K⟩] : List (View.Piece (Elt Ideal) S256x512 .i8))
      = maskBlk x0 := by
  subst hK
  rw [View.readCov_eq_canon', View.readCov_eq_canon', hL]
  have i0 (r : Fin 256) (k : Fin 2048) : (Rect.unit (s := S256x4096) ![0, 0] ![256, 2048] inb_S256x4096_S256x2048_0_0).toLoadRect.idx (ix2 r k)
      = ix2 r ⟨2048 * (0 : Fin 2).val + k.val, by show 2048 * 0 + k.val < 4096; omega⟩ := by
    pointwise
  have i1 (r : Fin 256) (k : Fin 2048) : (Rect.unit (s := S256x4096) ![0, 2048] ![256, 2048] inb_S256x4096_S256x2048_0_2048).toLoadRect.idx (ix2 r k)
      = ix2 r ⟨2048 * (1 : Fin 2).val + k.val, by show 2048 * 1 + k.val < 4096; omega⟩ := by
    pointwise
  have j0 (r l : Fin 256) : (Rect.unit (s := S256x512) ![0, 0] ![256, 256] inb_S256x512_S256x256_0_0).toLoadRect.idx (ix2 r l)
      = ix2 r ⟨256 * (0 : Fin 2).val + l.val, by show 256 * 0 + l.val < 512; omega⟩ := by
    pointwise
  have j1 (r l : Fin 256) : (Rect.unit (s := S256x512) ![0, 256] ![256, 256] inb_S256x512_S256x256_0_256).toLoadRect.idx (ix2 r l)
      = ix2 r ⟨256 * (1 : Fin 2).val + l.val, by show 256 * 1 + l.val < 512; omega⟩ := by
    pointwise
  funext y
  refine View.canon_apply_of_pieces (maskBlk x0) _ (fun p hp x => ?_) y ?_
  · rcases List.mem_cons.mp hp with rfl | hp
    · obtain ⟨r, l, rfl⟩ : ∃ (r : Fin 256) (l : Fin 256), x = (ix2 r l : S256x256.Idx) := ⟨x 0, x 1, eq_ix2 x⟩
      refine (half_apply x0 1 _ (fun r k => congrArg (bitsBlk x0) (i1 r k)) r l).trans ?_
      exact congrArg (maskBlk x0) (j1 r l).symm
    · obtain rfl := List.mem_singleton.mp hp
      obtain ⟨r, l, rfl⟩ : ∃ (r : Fin 256) (l : Fin 256), x = (ix2 r l : S256x256.Idx) := ⟨x 0, x 1, eq_ix2 x⟩
      refine (half_apply x0 0 _ (fun r k => congrArg (bitsBlk x0) (i0 r k)) r l).trans ?_
      exact congrArg (maskBlk x0) (j0 r l).symm
  · obtain ⟨r, q, rfl⟩ : ∃ (r : Fin 256) (q : Fin 512), y = (ix2 r q : S256x512.Idx) := ⟨y 0, y 1, eq_ix2 y⟩
    by_cases hq : q.val < 256
    · refine ⟨_, List.mem_cons_of_mem _ (List.mem_singleton.mpr rfl), ?_⟩
      have e : (ix2 r q : S256x512.Idx) = (Rect.unit (s := S256x512) ![0, 0] ![256, 256] inb_S256x512_S256x256_0_0).toLoadRect.idx (ix2 r (⟨q.val, hq⟩ : Fin 256)) := by
        rw [j0]
        congr 1
        exact Fin.ext (by show q.val = 256 * 0 + q.val; omega)
      rw [e]
      exact LoadRect.idx_mem _ _
    · refine ⟨_, List.mem_cons_self, ?_⟩
      have e : (ix2 r q : S256x512.Idx) = (Rect.unit (s := S256x512) ![0, 256] ![256, 256] inb_S256x512_S256x256_0_256).toLoadRect.idx (ix2 r (⟨q.val - 256, by omega⟩ : Fin 256)) := by
        rw [j1]
        congr 1
        exact Fin.ext (by show q.val = 256 * 1 + (q.val - 256); omega)
      rw [e]
      exact LoadRect.idx_mem _ _

end Cert.QuantiseIdeal.Qx
-- ==== Proof.Final.lean ====
module

public import proofs.«01_k».proof.Proof.Mask

/-! The kernel's four arrays after the run. -/

@[expose] public section
set_option maxRecDepth 65536
set_option maxHeartbeats 400000
noncomputable section
namespace Cert.QuantiseIdeal.Qx
open Cert.QuantiseIdeal Cert.QuantiseIdeal.Gen Idealize.ShloMosaic Idealize.ShloMosaic.TcCoe Idealize.SL.Sem Idealize.ShloMosaic.Tactic

variable (m : (ℓ : Loc nD τ sig) → Buf (Elt Ideal) ℓ)

/-- Every point leaves the two matrices in the carried scratch: the first stores them, the others keep them. -/
theorem matrices (c : Dev nD) : ∀ (n : ℕ) (hn : n < cfg0.N), (outsAt0 m c n hn).2.2.2.2 = (hadMat, packMat) := by
  intro n
  induction n with
  | zero =>
    intro hn
    have h := outsAt0_A m c ⟨0, hn⟩ rfl
    rw [show outsAt0 m c 0 hn = outsAt0 m c (⟨0, hn⟩ : Fin cfg0.N).val hn from rfl, h]
    dsimp only
    frame_out
  | succ n ih =>
    intro hn
    by_cases h0 : (n + 1) % 7 = 0
    · have h := outsAt0_A m c ⟨n + 1, hn⟩ h0
      rw [show outsAt0 m c (n + 1) hn = outsAt0 m c (⟨n + 1, hn⟩ : Fin cfg0.N).val hn from rfl, h]
      dsimp only
      frame_out
    · have h := outsAt0_B m c ⟨n + 1, hn⟩ h0
      rw [show outsAt0 m c (n + 1) hn = outsAt0 m c (⟨n + 1, hn⟩ : Fin cfg0.N).val hn from rfl, h]
      exact ih _

/-- Grid point `t` works on the block of 256 rows with number `t` of every array. -/
theorem index0 : ∀ t : Fin cfg0.N, win0_0.index t = ![t.val, 0] := (by decide +kernel : ∀ t : Fin grid0.N, _)
/-- Output 1 has at trip `t` the block of rows `t`. -/
theorem index1 : ∀ t : Fin cfg0.N, win0_1.index t = ![t.val, 0] := (by decide +kernel : ∀ t : Fin grid0.N, _)
/-- Output 2 has at trip `t` the block of rows `t`. -/
theorem index2 : ∀ t : Fin cfg0.N, win0_2.index t = ![t.val, 0] := (by decide +kernel : ∀ t : Fin grid0.N, _)
/-- Output 3 has at trip `t` the block of rows `t`. -/
theorem index3 : ∀ t : Fin cfg0.N, win0_3.index t = ![t.val, 0] := (by decide +kernel : ∀ t : Fin grid0.N, _)
/-- Output 4 has at trip `t` the block of rows `t`. -/
theorem index4 : ∀ t : Fin cfg0.N, win0_4.index t = ![t.val, 0] := (by decide +kernel : ∀ t : Fin grid0.N, _)

/-- The 16 stores of a rotation, one by one. -/
theorem pieces_rot (x0 : Vec Ideal S256x4096 .bf16) (H : FVec Ideal S256x256 .bf16) : ([
      ⟨Rect.unit ![0, 3840] ![256, 256] inb_S256x4096_S256x256_0_3840, k0_pay469 (View.ld x0 (Rect.unit ![0, 3840] ![256, 256] inb_S256x4096_S256x256_0_3840)) H⟩,
      ⟨Rect.unit ![0, 3584] ![256, 256] inb_S256x4096_S256x256_0_3584, k0_pay468 (View.ld x0 (Rect.unit ![0, 3584] ![256, 256] inb_S256x4096_S256x256_0_3584)) H⟩,
      ⟨Rect.unit ![0, 3328] ![256, 256] inb_S256x4096_S256x256_0_3328, k0_pay467 (k0_pay466 (View.ld x0 (Rect.unit ![0, 3328] ![256, 256] inb_S256x4096_S256x256_0_3328)) H)⟩,
      ⟨Rect.unit ![0, 3072] ![256, 256] inb_S256x4096_S256x256_0_3072, k0_pay465 (View.ld x0 (Rect.unit ![0, 3072] ![256, 256] inb_S256x4096_S256x256_0_3072)) H⟩,
      ⟨Rect.unit ![0, 2816] ![256, 256] inb_S256x4096_S256x256_0_2816, k0_pay464 (View.ld x0 (Rect.unit ![0, 2816] ![256, 256] inb_S256x4096_S256x256_0_2816)) H⟩,
      ⟨Rect.unit ![0, 2560] ![256, 256] inb_S256x4096_S256x256_0_2560, k0_pay463 (View.ld x0 (Rect.unit ![0, 2560] ![256, 256] inb_S256x4096_S256x256_0_2560)) H⟩,
      ⟨Rect.unit ![0, 2304] ![256, 256] inb_S256x4096_S256x256_0_2304, k0_pay462 (View.ld x0 (Rect.unit ![0, 2304] ![256, 256] inb_S256x4096_S256x256_0_2304)) H⟩,
      ⟨Rect.unit ![0, 2048] ![256, 256] inb_S256x4096_S256x256_0_2048, k0_pay461 (View.ld x0 (Rect.unit ![0, 2048] ![256, 256] inb_S256x4096_S256x256_0_2048)) H⟩,
      ⟨Rect.unit ![0, 1792] ![256, 256] inb_S256x4096_S256x256_0_1792, k0_pay460 (View.ld x0 (Rect.unit ![0, 1792] ![256, 256] inb_S256x4096_S256x256_0_1792)) H⟩,
      ⟨Rect.unit ![0, 1536] ![256, 256] inb_S256x4096_S256x256_0_1536, k0_pay459 (k0_pay458 (View.ld x0 (Rect.unit ![0, 1536] ![256, 256] inb_S256x4096_S256x256_0_1536)) H)⟩,
      ⟨Rect.unit ![0, 1280] ![256, 256] inb_S256x4096_S256x256_0_1280, k0_pay457 (View.ld x0 (Rect.unit ![0, 1280] ![256, 256] inb_S256x4096_S256x256_0_1280)) H⟩,
      ⟨Rect.unit ![0, 1024] ![256, 256] inb_S256x4096_S256x256_0_1024, k0_pay456 (View.ld x0 (Rect.unit ![0, 1024] ![256, 256] inb_S256x4096_S256x256_0_1024)) H⟩,
      ⟨Rect.unit ![0, 768] ![256, 256] inb_S256x4096_S256x256_0_768, k0_pay455 (View.ld x0 (Rect.unit ![0, 768] ![256, 256] inb_S256x4096_S256x256_0_768)) H⟩,
      ⟨Rect.unit ![0, 512] ![256, 256] inb_S256x4096_S256x256_0_512, k0_pay454 (View.ld x0 (Rect.unit ![0, 512] ![256, 256] inb_S256x4096_S256x256_0_512)) H⟩,
      ⟨Rect.unit ![0, 256] ![256, 256] inb_S256x4096_S256x256_0_256, k0_pay453 (View.ld x0 (Rect.unit ![0, 256] ![256, 256] inb_S256x4096_S256x256_0_256)) H⟩,
      ⟨Rect.unit ![0, 0] ![256, 256] inb_S256x4096_S256x256_0_0, k0_pay452 (View.ld x0 (Rect.unit ![0, 0] ![256, 256] inb_S256x4096_S256x256_0_0)) H⟩] : List (View.Piece (Elt Ideal) S256x4096 .f32))
    = (List.finRange 16).reverse.map (rotPiece x0 H) := rfl

/-- The scratch after the 16 stores of a rotation. -/
theorem scratch_rot (x0 : Vec Ideal S256x4096 .bf16) (H : FVec Ideal S256x256 .bf16) (hH : H = hadMat) (L : List (View.Piece (Elt Ideal) S256x4096 .f32))
    (hL : L = (List.finRange 16).reverse.map (rotPiece x0 H)) :
    scM0_2.view.read (Elt Ideal) (scM0_2.view.writes (Elt Ideal) scM0_2.view.junk L) = rotated x0 := by
  subst hH hL
  exact (View.read_writes_junk_eq_canon _ _).trans (canon_rot x0)

/-- What point `t` leaves in the block of codes. -/
theorem out1 (c : Dev nD) (t : Fin cfg0.N) : (outsAt0 m c t.val t.isLt).1 = codesBlk (iblk m c 0 t) := by
  by_cases h0 : t.val % 7 = 0
  · rw [outsAt0_A m c t h0]
    dsimp only
    frame_out
    rw [show Scf.trips 0#32 (Scalar.addi 0#32 8#32) 1#32 = 8 from trips_eq]
    refine loop_codes (x0 := iblk m c 0 t) (hX := ?_) ..
    exact scratch_rot (iblk m c 0 t) _ rfl _ (pieces_rot _ _)
  · rw [outsAt0_B m c t h0]
    dsimp only
    rw [matrices]
    dsimp only
    frame_out
    rw [show Scf.trips 0#32 (Scalar.addi 0#32 8#32) 1#32 = 8 from trips_eq]
    refine loop_codes (x0 := iblk m c 0 t) (hX := ?_) ..
    exact scratch_rot (iblk m c 0 t) _ ((Memref.isWhole_whole cc0_scratch0).read_unread _) _ (pieces_rot _ _)

/-- What point `t` leaves in the block of scale codes. -/
theorem out2 (c : Dev nD) (t : Fin cfg0.N) : (outsAt0 m c t.val t.isLt).2.1 = scalesBlk (iblk m c 0 t) := by
  by_cases h0 : t.val % 7 = 0
  · rw [outsAt0_A m c t h0]
    dsimp only
    frame_out
    rw [show Scf.trips 0#32 (Scalar.addi 0#32 8#32) 1#32 = 8 from trips_eq]
    refine loop_scales (x0 := iblk m c 0 t) (hX := ?_) ..
    exact scratch_rot (iblk m c 0 t) _ rfl _ (pieces_rot _ _)
  · rw [outsAt0_B m c t h0]
    dsimp only
    rw [matrices]
    dsimp only
    frame_out
    rw [show Scf.trips 0#32 (Scalar.addi 0#32 8#32) 1#32 = 8 from trips_eq]
    refine loop_scales (x0 := iblk m c 0 t) (hX := ?_) ..
    exact scratch_rot (iblk m c 0 t) _ ((Memref.isWhole_whole cc0_scratch0).read_unread _) _ (pieces_rot _ _)

/-- What point `t` leaves in the block of mask bytes. -/
theorem out3 (c : Dev nD) (t : Fin cfg0.N) : (outsAt0 m c t.val t.isLt).2.2.1 = maskBlk (iblk m c 0 t) := by
  by_cases h0 : t.val % 7 = 0
  · rw [outsAt0_A m c t h0]
    dsimp only
    frame_out
    rw [show Scf.trips 0#32 (Scalar.addi 0#32 8#32) 1#32 = 8 from trips_eq]
    refine mask_pieces (iblk m c 0 t) _ (loop_bits (x0 := iblk m c 0 t) (hX := ?_) ..) _ rfl
    exact scratch_rot (iblk m c 0 t) _ rfl _ (pieces_rot _ _)
  · rw [outsAt0_B m c t h0]
    dsimp only
    rw [matrices]
    dsimp only
    frame_out
    rw [show Scf.trips 0#32 (Scalar.addi 0#32 8#32) 1#32 = 8 from trips_eq]
    refine mask_pieces (iblk m c 0 t) _ (loop_bits (x0 := iblk m c 0 t) (hX := ?_) ..) _ ((Memref.isWhole_whole cc0_scratch1).read_unread _)
    exact scratch_rot (iblk m c 0 t) _ ((Memref.isWhole_whole cc0_scratch0).read_unread _) _ (pieces_rot _ _)

/-- What point `t` leaves in the block of dequantised values. -/
theorem out4 (c : Dev nD) (t : Fin cfg0.N) : (outsAt0 m c t.val t.isLt).2.2.2.1 = deqBlk (iblk m c 0 t) := by
  by_cases h0 : t.val % 7 = 0
  · rw [outsAt0_A m c t h0]
    dsimp only
    frame_out
    rw [show Scf.trips 0#32 (Scalar.addi 0#32 8#32) 1#32 = 8 from trips_eq]
    refine loop_deq (x0 := iblk m c 0 t) (hX := ?_) ..
    exact scratch_rot (iblk m c 0 t) _ rfl _ (pieces_rot _ _)
  · rw [outsAt0_B m c t h0]
    dsimp only
    rw [matrices]
    dsimp only
    frame_out
    rw [show Scf.trips 0#32 (Scalar.addi 0#32 8#32) 1#32 = 8 from trips_eq]
    refine loop_deq (x0 := iblk m c 0 t) (hX := ?_) ..
    exact scratch_rot (iblk m c 0 t) _ ((Memref.isWhole_whole cc0_scratch0).read_unread _) _ (pieces_rot _ _)

/-- The kernel's codes after the run. -/
theorem final1 (c : Dev nD) : (dats m 0 c).arrAt 1 cfg0.N = fun y => Spec.codes (fun k => V m c main_arg0 (ix2 (y 0) k)) (y 1) := by
  refine (dats m 0 c).arrAt_eq_of_covers 1 _ (by decide +kernel) fun t hf y => ?_
  blk_simp
  rw [after0_1, out1]
  obtain ⟨r, q, rfl⟩ : ∃ (r : Fin 256) (q : Fin 4096), y = (ix2 r q : S256x4096.Idx) := ⟨y 0, y 1, eq_ix2 y⟩
  unfold codesBlk rowOf
  blk_simp [iblk]
  have e0 (k : Fin 4096) : (win0_0.blk t).view.emb (ix2 r k) = (ix2 ((win0_1.blk t).view.emb (ix2 r q) 0) k : S1792x4096.Idx) := by
    blk_ext [index0, index1]
  have e1 : (win0_1.blk t).view.emb (ix2 r q) = (ix2 ((win0_1.blk t).view.emb (ix2 r q) 0) q : S1792x4096.Idx) := by
    blk_ext [index1]
  have e2 : (win0_1.blk t).view.emb (ix2 r q) 1 = q := congrFun e1 1
  rw [e2]
  show Spec.codes (fun k => V m c main_arg0 ((win0_0.blk t).view.emb (ix2 r k))) q = _
  simp only [e0]

/-- The kernel's scale codes after the run. -/
theorem final2 (c : Dev nD) : (dats m 0 c).arrAt 2 cfg0.N = fun y => Spec.scales (fun k => V m c main_arg0 (ix2 (y 0) k)) (y 1) := by
  refine (dats m 0 c).arrAt_eq_of_covers 2 _ (by decide +kernel) fun t hf y => ?_
  blk_simp
  rw [after0_2, out2]
  obtain ⟨r, q, rfl⟩ : ∃ (r : Fin 256) (q : Fin 128), y = (ix2 r q : S256x128.Idx) := ⟨y 0, y 1, eq_ix2 y⟩
  unfold scalesBlk rowOf
  blk_simp [iblk]
  have e0 (k : Fin 4096) : (win0_0.blk t).view.emb (ix2 r k) = (ix2 ((win0_2.blk t).view.emb (ix2 r q) 0) k : S1792x4096.Idx) := by
    blk_ext [index0, index2]
  have e1 : (win0_2.blk t).view.emb (ix2 r q) = (ix2 ((win0_2.blk t).view.emb (ix2 r q) 0) q : S1792x128.Idx) := by
    blk_ext [index2]
  have e2 : (win0_2.blk t).view.emb (ix2 r q) 1 = q := congrFun e1 1
  rw [e2]
  show Spec.scales (fun k => V m c main_arg0 ((win0_0.blk t).view.emb (ix2 r k))) q = _
  simp only [e0]

/-- The kernel's mask after the run. -/
theorem final3 (c : Dev nD) : (dats m 0 c).arrAt 3 cfg0.N = fun y => Spec.mask (fun k => V m c main_arg0 (ix2 (y 0) k)) (y 1) := by
  refine (dats m 0 c).arrAt_eq_of_covers 3 _ (by decide +kernel) fun t hf y => ?_
  blk_simp
  rw [after0_3, out3]
  obtain ⟨r, q, rfl⟩ : ∃ (r : Fin 256) (q : Fin 512), y = (ix2 r q : S256x512.Idx) := ⟨y 0, y 1, eq_ix2 y⟩
  unfold maskBlk rowOf
  blk_simp [iblk]
  have e0 (k : Fin 4096) : (win0_0.blk t).view.emb (ix2 r k) = (ix2 ((win0_3.blk t).view.emb (ix2 r q) 0) k : S1792x4096.Idx) := by
    blk_ext [index0, index3]
  have e1 : (win0_3.blk t).view.emb (ix2 r q) = (ix2 ((win0_3.blk t).view.emb (ix2 r q) 0) q : S1792x512.Idx) := by
    blk_ext [index3]
  have e2 : (win0_3.blk t).view.emb (ix2 r q) 1 = q := congrFun e1 1
  rw [e2]
  show Spec.mask (fun k => V m c main_arg0 ((win0_0.blk t).view.emb (ix2 r k))) q = _
  simp only [e0]

/-- The kernel's dequantised values after the run. -/
theorem final4 (c : Dev nD) : (dats m 0 c).arrAt 4 cfg0.N = fun y => Spec.deq (fun k => V m c main_arg0 (ix2 (y 0) k)) (y 1) := by
  refine (dats m 0 c).arrAt_eq_of_covers 4 _ (by decide +kernel) fun t hf y => ?_
  blk_simp
  rw [after0_4, out4]
  obtain ⟨r, q, rfl⟩ : ∃ (r : Fin 256) (q : Fin 4096), y = (ix2 r q : S256x4096.Idx) := ⟨y 0, y 1, eq_ix2 y⟩
  unfold deqBlk rowOf
  blk_simp [iblk]
  have e0 (k : Fin 4096) : (win0_0.blk t).view.emb (ix2 r k) = (ix2 ((win0_4.blk t).view.emb (ix2 r q) 0) k : S1792x4096.Idx) := by
    blk_ext [index0, index4]
  have e1 : (win0_4.blk t).view.emb (ix2 r q) = (ix2 ((win0_4.blk t).view.emb (ix2 r q) 0) q : S1792x4096.Idx) := by
    blk_ext [index4]
  have e2 : (win0_4.blk t).view.emb (ix2 r q) 1 = q := congrFun e1 1
  rw [e2]
  show Spec.deq (fun k => V m c main_arg0 ((win0_0.blk t).view.emb (ix2 r k))) q = _
  simp only [e0]

end Cert.QuantiseIdeal.Qx
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Quantise
public import proofs.«01_k».proof.Proof.Gen.Quantise.Skeleton
public import proofs.«01_k».proof.Proof.Gen.Quantise.Loops
public import proofs.«01_k».proof.Proof.Gen.Quantise.Launch
public import proofs.«01_k».proof.Proof.Gen.Quantise.Points
public import proofs.«01_k».proof.Proof.Gen.Quantise.Frame
public import proofs.«01_k».proof.Proof.Gen.QuantiseIdeal
public import proofs.«01_k».proof.Proof.Gen.QuantiseIdeal.Skeleton
public import proofs.«01_k».proof.Proof.Gen.QuantiseIdeal.Loops
public import proofs.«01_k».proof.Proof.Gen.QuantiseIdeal.Launch
public import proofs.«01_k».proof.Proof.Gen.QuantiseIdeal.Points
public import proofs.«01_k».proof.Proof.Gen.QuantiseIdeal.Frame
public import proofs.«01_k».proof.Proof.Gen.QuantiseIdeal.Value
public import proofs.«01_k».proof.Proof.Gen.QuantiseReferenceIdeal
public import proofs.«01_k».proof.Proof.Gen.QuantiseReferenceIdeal.Skeleton
public import proofs.«01_k».proof.Proof.Gen.QuantiseReferenceIdeal.Launch
public import proofs.«01_k».proof.Proof.Gen.QuantiseReferenceIdeal.Points
public import proofs.«01_k».proof.Proof.Gen.QuantiseReferenceIdeal.Frame
public import proofs.«01_k».proof.Proof.Gen.QuantiseReferenceIdeal.Value
public import proofs.«01_k».proof.Proof.Product
public import proofs.«01_k».proof.Proof.RefSide
public import proofs.«01_k».proof.Proof.Final
public import Idealize.ShloMosaic.Adequacy
public import Idealize.ShloMosaic.Init

@[expose] public section

noncomputable section

namespace Cert.Proof

open Idealize.ShloMosaic Idealize.SL.Sem Cert.Kernel

/-- The kernel and the reference end with the same array, the product of `xq` with the dequantised weights. -/
theorem algebraic : algebraic_KernelIdeal_ReferenceIdeal (hKernelIdeal := Cert.KernelIdeal.Gen.facts)
    (hReferenceIdeal := Cert.ReferenceIdeal.Gen.facts) := by
  intro m ρ m' ρ' _ hag
  refine ⟨fun c => Cert.KernelIdeal.Mm.product (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ⟨(h c).1.trans ?_, (h c).2⟩) (Cert.KernelIdeal.Value.run_blocks m ρ)
    rw [Cert.KernelIdeal.Mm.final, Cert.KernelIdeal.Gen.V_main_arg0, Cert.KernelIdeal.Gen.V_main_arg1, Cert.KernelIdeal.Gen.V_main_arg2]
  · refine (θ_run _ _ _).mono (fun r h c => ⟨(h c).1.trans ?_, (h c).2⟩) (Cert.ReferenceIdeal.Value.run m' ρ')
    rw [Cert.KernelIdeal.Mm.reference_eq, (hag c).1, (hag c).2.1, (hag c).2.2]

/-- The codes the quantiser's reference ends with, row by row. -/
theorem quantised1 (a : Vec Ideal Cert.QuantiseReferenceIdeal.S1792x4096 .bf16) : Cert.QuantiseReferenceIdeal.Value.G1 (F := Ideal) a
    = fun y => Cert.Spec.codes (fun k => a (ix2 (y 0) k)) (y 1) := by
  funext y
  obtain ⟨s, q, rfl⟩ : ∃ (s : Fin 1792) (q : Fin 4096), y = (ix2 s q : Cert.QuantiseReferenceIdeal.S1792x4096.Idx) := ⟨y 0, y 1, eq_ix2 y⟩
  exact Cert.QuantiseReferenceIdeal.Qr.codes_eq a s q

/-- The scale codes the quantiser's reference ends with, row by row. -/
theorem quantised2 (a : Vec Ideal Cert.QuantiseReferenceIdeal.S1792x4096 .bf16) : Cert.QuantiseReferenceIdeal.Value.G2 (F := Ideal) a
    = fun y => Cert.Spec.scales (fun k => a (ix2 (y 0) k)) (y 1) := by
  funext y
  obtain ⟨s, q, rfl⟩ : ∃ (s : Fin 1792) (q : Fin 128), y = (ix2 s q : Cert.QuantiseReferenceIdeal.S1792x128.Idx) := ⟨y 0, y 1, eq_ix2 y⟩
  exact Cert.QuantiseReferenceIdeal.Qr.scales_eq a s q

/-- The mask the quantiser's reference ends with, row by row. -/
theorem quantised3 (a : Vec Ideal Cert.QuantiseReferenceIdeal.S1792x4096 .bf16) : Cert.QuantiseReferenceIdeal.Value.G3 (F := Ideal) a
    = fun y => Cert.Spec.mask (fun k => a (ix2 (y 0) k)) (y 1) := by
  funext y
  obtain ⟨s, q, rfl⟩ : ∃ (s : Fin 1792) (q : Fin 512), y = (ix2 s q : Cert.QuantiseReferenceIdeal.S1792x512.Idx) := ⟨y 0, y 1, eq_ix2 y⟩
  exact Cert.QuantiseReferenceIdeal.Qr.mask_eq a s q

/-- The dequantised values the quantiser's reference ends with, row by row. -/
theorem quantised4 (a : Vec Ideal Cert.QuantiseReferenceIdeal.S1792x4096 .bf16) : Cert.QuantiseReferenceIdeal.Value.G4 (F := Ideal) a
    = fun y => Cert.Spec.deq (fun k => a (ix2 (y 0) k)) (y 1) := by
  funext y
  obtain ⟨s, q, rfl⟩ : ∃ (s : Fin 1792) (q : Fin 4096), y = (ix2 s q : Cert.QuantiseReferenceIdeal.S1792x4096.Idx) := ⟨y 0, y 1, eq_ix2 y⟩
  exact Cert.QuantiseReferenceIdeal.Qr.deq_eq a s q

/-- The quantiser and its reference end with the same four arrays: codes, scale codes, mask, dequantised values. -/
theorem algebraic_quantise : algebraic_QuantiseIdeal_QuantiseReferenceIdeal (hQuantiseIdeal := Cert.QuantiseIdeal.Gen.facts)
    (hQuantiseReferenceIdeal := Cert.QuantiseReferenceIdeal.Gen.facts) := by
  intro m ρ m' ρ' _ hag
  refine ⟨fun c y => Cert.Spec.codes (fun k => (m ((c.tc : Thread Cert.QuantiseIdeal.nD Cert.QuantiseIdeal.τ).loc Cert.QuantiseIdeal.main_arg0) : Vec Ideal Cert.QuantiseIdeal.S1792x4096 .bf16) (ix2 (y 0) k)) (y 1),
    fun c y => Cert.Spec.scales (fun k => (m ((c.tc : Thread Cert.QuantiseIdeal.nD Cert.QuantiseIdeal.τ).loc Cert.QuantiseIdeal.main_arg0) : Vec Ideal Cert.QuantiseIdeal.S1792x4096 .bf16) (ix2 (y 0) k)) (y 1),
    fun c y => Cert.Spec.mask (fun k => (m ((c.tc : Thread Cert.QuantiseIdeal.nD Cert.QuantiseIdeal.τ).loc Cert.QuantiseIdeal.main_arg0) : Vec Ideal Cert.QuantiseIdeal.S1792x4096 .bf16) (ix2 (y 0) k)) (y 1),
    fun c y => Cert.Spec.deq (fun k => (m ((c.tc : Thread Cert.QuantiseIdeal.nD Cert.QuantiseIdeal.τ).loc Cert.QuantiseIdeal.main_arg0) : Vec Ideal Cert.QuantiseIdeal.S1792x4096 .bf16) (ix2 (y 0) k)) (y 1), ?_, ?_⟩
  · refine (θ_run _ _ _).mono (fun r h c => ⟨(h c).1.trans ?_, (h c).2.1.trans ?_, (h c).2.2.1.trans ?_, (h c).2.2.2.1.trans ?_, (h c).2.2.2.2⟩)
      (Cert.QuantiseIdeal.Value.run_blocks m ρ)
    · exact Cert.QuantiseIdeal.Qx.final1 m c
    · exact Cert.QuantiseIdeal.Qx.final2 m c
    · exact Cert.QuantiseIdeal.Qx.final3 m c
    · exact Cert.QuantiseIdeal.Qx.final4 m c
  · refine (θ_run _ _ _).mono (fun r h c => ⟨(h c).1.trans ?_, (h c).2.1.trans ?_, (h c).2.2.1.trans ?_, (h c).2.2.2.1.trans ?_, (h c).2.2.2.2⟩)
      (Cert.QuantiseReferenceIdeal.Value.run m' ρ')
    · rw [quantised1, hag c]; rfl
    · rw [quantised2, hag c]; rfl
    · rw [quantised3, hag c]; rfl
    · rw [quantised4, hag c]; rfl

/-- Everything the certificate claims. -/
theorem claim : Cert.Claim := ⟨Cert.Kernel.Gen.facts, Cert.KernelIdeal.Gen.facts, Cert.ReferenceIdeal.Gen.facts,
  Cert.Quantise.Gen.facts, Cert.QuantiseIdeal.Gen.facts, Cert.QuantiseReferenceIdeal.Gen.facts,
  fun m ρ _ => Cert.Kernel.Gen.frame m ρ, fun m ρ _ => Cert.KernelIdeal.Gen.frame m ρ, fun m ρ _ => Cert.ReferenceIdeal.Gen.frame m ρ,
  fun m ρ _ => Cert.Quantise.Gen.frame m ρ, fun m ρ _ => Cert.QuantiseIdeal.Gen.frame m ρ, fun m ρ _ => Cert.QuantiseReferenceIdeal.Gen.frame m ρ,
  trivial, algebraic, IdealRules.sign_bit.statement _ _, algebraic_quantise⟩

end Cert.Proof

end
